-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![4096, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![4096, 4096]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 4096]⟩ ⟨2, ![1024, 4096]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S256x4096 : Shape := ⟨2, ![256, 4096]⟩
abbrev S4x256x1024 : Shape := ⟨3, ![4, 256, 1024]⟩
abbrev S256x1024 : Shape := ⟨2, ![256, 1024]⟩
abbrev S4 : Shape := ⟨1, ![4]⟩
abbrev S3 : Shape := ⟨1, ![3]⟩
abbrev S_ : Shape := ⟨0, ![]⟩
abbrev S1024x256 : Shape := ⟨2, ![1024, 256]⟩
abbrev S1x256x1024 : Shape := ⟨3, ![1, 256, 1024]⟩
abbrev S1 : Shape := ⟨1, ![1]⟩

abbrev nBuf : Space → Nat
  | .hbm => 3
  | .vmem => 14
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S256x4096, .f32⟩
  | .local _ .vmem, ⟨0, _⟩ => ⟨S1024x1024, .bf16⟩
  | .local _ .vmem, ⟨1, _⟩ => ⟨S1024x4096, .bf16⟩
  | .local _ .vmem, ⟨2, _⟩ => ⟨S256x4096, .f32⟩
  | .local _ .vmem, ⟨3, _⟩ => ⟨S1024x1024, .bf16⟩
  | .local _ .vmem, ⟨4, _⟩ => ⟨S4x256x1024, .f32⟩
  | .local _ .vmem, ⟨5, _⟩ => ⟨S256x1024, .f32⟩
  | .local _ .vmem, ⟨6, _⟩ => ⟨S4x256x1024, .bf16⟩
  | .local _ .vmem, ⟨7, _⟩ => ⟨S4x256x1024, .bf16⟩
  | .local _ .vmem, ⟨8, _⟩ => ⟨S4x256x1024, .bf16⟩
  | .local _ .vmem, ⟨9, _⟩ => ⟨S4x256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_3 v2
  let c8_i32_6 : BitVec 32 := 8#32
  let v14 : BitVec 32 := Scalar.muli v12 c8_i32_6
  let v15 : BitVec 32 := Scalar.addi c0_i32 v14
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7 : BitVec 32 := 4#32
  let v16 : BitVec 32 := Scalar.muli v5 c4_i32_7
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.muli v8 c1_i32_8
  let v19 : BitVec 32 := Scalar.addi v17 v18
  v19.toNat
def k0_dev2 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v20 : BitVec 32 := Scalar.muli v2 c8_i32_10
  let v21 : BitVec 32 := Scalar.addi c0_i32_11 v20
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let c4_i32_12 : BitVec 32 := 4#32
  let v22 : BitVec 32 := Scalar.muli v13 c4_i32_12
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v24 : BitVec 32 := Scalar.muli v8 c1_i32_13
  let v25 : BitVec 32 := Scalar.addi v23 v24
  v25.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v26 : BitVec 1 := Scalar.cmpi .slt v8 c3_i32
  let v27 : BitVec 32 := Scalar.extui v26
  let c0_i32_14 : BitVec 32 := 0#32
  let v28 : BitVec 1 := Scalar.cmpi .ne v27 c0_i32_14
  v28

def k0_dev3 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v319 : BitVec 32 := Scalar.muli v2 c8_i32_225
  let v320 : BitVec 32 := Scalar.addi c0_i32_226 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v321 : BitVec 32 := Scalar.muli v5 c4_i32_227
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v318 : BitVec 32 := Scalar.addi v8 c1_i32_223
  let c1_i32_228 : BitVec 32 := 1#32
  let v323 : BitVec 32 := Scalar.muli v318 c1_i32_228
  let v324 : BitVec 32 := Scalar.addi v322 v323
  v324.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_15 : BitVec 32 := 0#32
  let v29 : BitVec 1 := Scalar.cmpi .sgt v8 c0_i32_15
  let v30 : BitVec 32 := Scalar.extui v29
  let c0_i32_16 : BitVec 32 := 0#32
  let v31 : BitVec 1 := Scalar.cmpi .ne v30 c0_i32_16
  v31

def k0_dev4 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v319 : BitVec 32 := Scalar.muli v2 c8_i32_225
  let v320 : BitVec 32 := Scalar.addi c0_i32_226 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v321 : BitVec 32 := Scalar.muli v5 c4_i32_227
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v318 : BitVec 32 := Scalar.subi v8 c1_i32_223
  let c1_i32_228 : BitVec 32 := 1#32
  let v323 : BitVec 32 := Scalar.muli v318 c1_i32_228
  let v324 : BitVec 32 := Scalar.addi v322 v323
  v324.toNat
def k0_off1 (d0 : Dev nD) : Fin 2 → Nat :=
  let c0 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v37 : BitVec 32 := Scalar.muli v10 c1024_i32
  let v38 : Index := Scalar.indexCast v37
  ![0, v38.toNat]
def k0_off2 (d0 : Dev nD) (c3_i32_29 : BitVec 32) (c3_i32_28 : BitVec 32) (c3_i32_26 : BitVec 32) (c0_i32_27 : BitVec 32) : Fin 2 → Nat :=
  let c0_30 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_23 : BitVec 32 := 0#32
  let v44 : BitVec 1 := Scalar.cmpi .eq v8 c0_i32_23
  let c1_i32_24 : BitVec 32 := 1#32
  let v45 : BitVec 1 := Scalar.cmpi .eq v8 c1_i32_24
  let c2_i32_25 : BitVec 32 := 2#32
  let v46 : BitVec 1 := Scalar.cmpi .eq v8 c2_i32_25
  let v47 : BitVec 32 := Scalar.select v46 c3_i32_26 c0_i32_27
  let v48 : BitVec 32 := Scalar.select v45 c3_i32_28 v47
  let v49 : BitVec 32 := Scalar.select v44 c3_i32_29 v48
  let c256_i32 : BitVec 32 := 256#32
  let v50 : BitVec 32 := Scalar.muli v49 c256_i32
  let v51 : Index := Scalar.indexCast v50
  ![0, v51.toNat]
def k0_off2_at (r : Fin 4) : BitVec 32 × BitVec 32 × BitVec 32 × BitVec 32 :=
  if r.val < 2 then
    if r.val < 1 then
      (3#32, 3#32, 3#32, 0#32)
    else
      (2#32, 0#32, 0#32, 1#32)
  else
    if r.val < 3 then
      (1#32, 2#32, 1#32, 2#32)
    else
      (0#32, 1#32, 2#32, 3#32)
def k0_off3 (d0 : Dev nD) (c3_i32_29 : BitVec 32) (c3_i32_28 : BitVec 32) (c3_i32_26 : BitVec 32) (c0_i32_27 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_23 : BitVec 32 := 0#32
  let v44 : BitVec 1 := Scalar.cmpi .eq v8 c0_i32_23
  let c1_i32_24 : BitVec 32 := 1#32
  let v45 : BitVec 1 := Scalar.cmpi .eq v8 c1_i32_24
  let c2_i32_25 : BitVec 32 := 2#32
  let v46 : BitVec 1 := Scalar.cmpi .eq v8 c2_i32_25
  let v47 : BitVec 32 := Scalar.select v46 c3_i32_26 c0_i32_27
  let v48 : BitVec 32 := Scalar.select v45 c3_i32_28 v47
  let v49 : BitVec 32 := Scalar.select v44 c3_i32_29 v48
  let v56 : Index := Scalar.indexCast v49
  let c0_33 : Index := 0#32
  let c0_34 : Index := 0#32
  ![v56.toNat, 0, 0]
def k0_off3_at (r : Fin 4) : BitVec 32 × BitVec 32 × BitVec 32 × BitVec 32 :=
  if r.val < 2 then
    if r.val < 1 then
      (3#32, 3#32, 3#32, 0#32)
    else
      (2#32, 0#32, 0#32, 1#32)
  else
    if r.val < 3 then
      (1#32, 2#32, 1#32, 2#32)
    else
      (0#32, 1#32, 2#32, 3#32)
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_55 : BitVec 32 := 3#32
  let v86 : BitVec 1 := Scalar.cmpi .slt v8 c3_i32_55
  let v87 : BitVec 32 := Scalar.extui v86
  let c0_i32_56 : BitVec 32 := 0#32
  let v88 : BitVec 1 := Scalar.cmpi .ne v87 c0_i32_56
  v88

def k0_dev5 (d0 : Dev nD) : Nat :=
  let c0_i32_229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_228 : BitVec 32 := 8#32
  let v319 : BitVec 32 := Scalar.muli v2 c8_i32_228
  let v320 : BitVec 32 := Scalar.addi c0_i32_229 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_230 : BitVec 32 := 4#32
  let v321 : BitVec 32 := Scalar.muli v5 c4_i32_230
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v318 : BitVec 32 := Scalar.addi v8 c1_i32_223
  let c1_i32_231 : BitVec 32 := 1#32
  let v323 : BitVec 32 := Scalar.muli v318 c1_i32_231
  let v324 : BitVec 32 := Scalar.addi v322 v323
  v324.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_63 : BitVec 32 := 0#32
  let v99 : BitVec 1 := Scalar.cmpi .sgt v8 c0_i32_63
  let v100 : BitVec 32 := Scalar.extui v99
  let c0_i32_64 : BitVec 32 := 0#32
  let v101 : BitVec 1 := Scalar.cmpi .ne v100 c0_i32_64
  v101

def k0_dev6 (d0 : Dev nD) : Nat :=
  let c0_i32_229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_228 : BitVec 32 := 8#32
  let v319 : BitVec 32 := Scalar.muli v2 c8_i32_228
  let v320 : BitVec 32 := Scalar.addi c0_i32_229 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_230 : BitVec 32 := 4#32
  let v321 : BitVec 32 := Scalar.muli v5 c4_i32_230
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v318 : BitVec 32 := Scalar.subi v8 c1_i32_223
  let c1_i32_231 : BitVec 32 := 1#32
  let v323 : BitVec 32 := Scalar.muli v318 c1_i32_231
  let v324 : BitVec 32 := Scalar.addi v322 v323
  v324.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_85 : BitVec 32 := 2#32
  let v128 : BitVec 1 := Scalar.cmpi .slt v8 c2_i32_85
  let v129 : BitVec 32 := Scalar.extui v128
  let c0_i32_86 : BitVec 32 := 0#32
  let v130 : BitVec 1 := Scalar.cmpi .ne v129 c0_i32_86
  v130

def k0_dev7 (d0 : Dev nD) : Nat :=
  let c0_i32_229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_228 : BitVec 32 := 8#32
  let v319 : BitVec 32 := Scalar.muli v2 c8_i32_228
  let v320 : BitVec 32 := Scalar.addi c0_i32_229 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_230 : BitVec 32 := 4#32
  let v321 : BitVec 32 := Scalar.muli v5 c4_i32_230
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v318 : BitVec 32 := Scalar.addi v8 c1_i32_223
  let c1_i32_231 : BitVec 32 := 1#32
  let v323 : BitVec 32 := Scalar.muli v318 c1_i32_231
  let v324 : BitVec 32 := Scalar.addi v322 v323
  v324.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v141 : BitVec 1 := Scalar.cmpi .sgt v8 c1_i32_93
  let v142 : BitVec 32 := Scalar.extui v141
  let c0_i32_94 : BitVec 32 := 0#32
  let v143 : BitVec 1 := Scalar.cmpi .ne v142 c0_i32_94
  v143

def k0_dev8 (d0 : Dev nD) : Nat :=
  let c0_i32_229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_228 : BitVec 32 := 8#32
  let v319 : BitVec 32 := Scalar.muli v2 c8_i32_228
  let v320 : BitVec 32 := Scalar.addi c0_i32_229 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_230 : BitVec 32 := 4#32
  let v321 : BitVec 32 := Scalar.muli v5 c4_i32_230
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v318 : BitVec 32 := Scalar.subi v8 c1_i32_223
  let c1_i32_231 : BitVec 32 := 1#32
  let v323 : BitVec 32 := Scalar.muli v318 c1_i32_231
  let v324 : BitVec 32 := Scalar.addi v322 v323
  v324.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v170 : BitVec 1 := Scalar.cmpi .slt v8 c1_i32_115
  let v171 : BitVec 32 := Scalar.extui v170
  let c0_i32_116 : BitVec 32 := 0#32
  let v172 : BitVec 1 := Scalar.cmpi .ne v171 c0_i32_116
  v172

def k0_dev9 (d0 : Dev nD) : Nat :=
  let c0_i32_229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_228 : BitVec 32 := 8#32
  let v319 : BitVec 32 := Scalar.muli v2 c8_i32_228
  let v320 : BitVec 32 := Scalar.addi c0_i32_229 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_230 : BitVec 32 := 4#32
  let v321 : BitVec 32 := Scalar.muli v5 c4_i32_230
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v318 : BitVec 32 := Scalar.addi v8 c1_i32_223
  let c1_i32_231 : BitVec 32 := 1#32
  let v323 : BitVec 32 := Scalar.muli v318 c1_i32_231
  let v324 : BitVec 32 := Scalar.addi v322 v323
  v324.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_123 : BitVec 32 := 2#32
  let v183 : BitVec 1 := Scalar.cmpi .sgt v8 c2_i32_123
  let v184 : BitVec 32 := Scalar.extui v183
  let c0_i32_124 : BitVec 32 := 0#32
  let v185 : BitVec 1 := Scalar.cmpi .ne v184 c0_i32_124
  v185

def k0_dev10 (d0 : Dev nD) : Nat :=
  let c0_i32_229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_228 : BitVec 32 := 8#32
  let v319 : BitVec 32 := Scalar.muli v2 c8_i32_228
  let v320 : BitVec 32 := Scalar.addi c0_i32_229 v319
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_230 : BitVec 32 := 4#32
  let v321 : BitVec 32 := Scalar.muli v5 c4_i32_230
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v318 : BitVec 32 := Scalar.subi v8 c1_i32_223
  let c1_i32_231 : BitVec 32 := 1#32
  let v323 : BitVec 32 := Scalar.muli v318 c1_i32_231
  let v324 : BitVec 32 := Scalar.addi v322 v323
  v324.toNat
def k0_off4 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v186 : Index := Scalar.indexCast v8
  let c0_125 : Index := 0#32
  let c0_126 : Index := 0#32
  ![v186.toNat, 0, 0]
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_129 : BitVec 32 := 0#32
  let v192 : BitVec 1 := Scalar.cmpi .sgt v8 c0_i32_129
  let v193 : BitVec 32 := Scalar.extui v192
  let c0_i32_130 : BitVec 32 := 0#32
  let v194 : BitVec 1 := Scalar.cmpi .ne v193 c0_i32_130
  v194

def k0_off5 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off6 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_227 : BitVec 32 := 0#32
  let c0_i32_228 : BitVec 32 := 0#32
  ![v8.toNat, 0, 0]
def k0_off7 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v331 : Index := Scalar.indexCast v8
  let c0_233 : Index := 0#32
  let c0_234 : Index := 0#32
  ![v331.toNat, 0, 0]
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_131 : BitVec 32 := 3#32
  let v195 : BitVec 1 := Scalar.cmpi .slt v8 c3_i32_131
  let v196 : BitVec 32 := Scalar.extui v195
  let c0_i32_132 : BitVec 32 := 0#32
  let v197 : BitVec 1 := Scalar.cmpi .ne v196 c0_i32_132
  v197

def k0_off8 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off9 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_227 : BitVec 32 := 0#32
  let c0_i32_228 : BitVec 32 := 0#32
  ![v8.toNat, 0, 0]
def k0_off10 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v331 : Index := Scalar.indexCast v8
  let c0_233 : Index := 0#32
  let c0_234 : Index := 0#32
  ![v331.toNat, 0, 0]
def k0_dev11 (d0 : Dev nD) : Nat :=
  let c0_i32_142 : BitVec 32 := 0#32
  let c1_i32_137 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v203 : BitVec 32 := Scalar.subi c1_i32_137 v2
  let c8_i32_141 : BitVec 32 := 8#32
  let v205 : BitVec 32 := Scalar.muli v203 c8_i32_141
  let v206 : BitVec 32 := Scalar.addi c0_i32_142 v205
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_143 : BitVec 32 := 4#32
  let v207 : BitVec 32 := Scalar.muli v5 c4_i32_143
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v209 : BitVec 32 := Scalar.muli v8 c1_i32_144
  let v210 : BitVec 32 := Scalar.addi v208 v209
  v210.toNat
def k0_dev12 (d0 : Dev nD) : Nat :=
  let c0_i32_148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_147 : BitVec 32 := 8#32
  let v215 : BitVec 32 := Scalar.muli v2 c8_i32_147
  let v216 : BitVec 32 := Scalar.addi c0_i32_148 v215
  let c1_i32_138 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v204 : BitVec 32 := Scalar.subi c1_i32_138 v5
  let c4_i32_149 : BitVec 32 := 4#32
  let v217 : BitVec 32 := Scalar.muli v204 c4_i32_149
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v219 : BitVec 32 := Scalar.muli v8 c1_i32_150
  let v220 : BitVec 32 := Scalar.addi v218 v219
  v220.toNat
def k0_dev13 (d0 : Dev nD) : Nat :=
  let c0_i32_160 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_159 : BitVec 32 := 8#32
  let v233 : BitVec 32 := Scalar.muli v2 c8_i32_159
  let v234 : BitVec 32 := Scalar.addi c0_i32_160 v233
  let c1_i32_138 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v204 : BitVec 32 := Scalar.subi c1_i32_138 v5
  let c4_i32_161 : BitVec 32 := 4#32
  let v235 : BitVec 32 := Scalar.muli v204 c4_i32_161
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v237 : BitVec 32 := Scalar.muli v8 c1_i32_162
  let v238 : BitVec 32 := Scalar.addi v236 v237
  v238.toNat
def k0_off11 (d0 : Dev nD) : Fin 2 → Nat :=
  let c0_178 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_177 : BitVec 32 := 1024#32
  let v260 : BitVec 32 := Scalar.muli v10 c1024_i32_177
  let v261 : Index := Scalar.indexCast v260
  ![0, v261.toNat]
def k0_off12 (d0 : Dev nD) : Fin 2 → Nat :=
  let c0_184 : Index := 0#32
  let c1_i32_179 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v263 : BitVec 32 := Scalar.subi c1_i32_179 v2
  let c2_i32_180 : BitVec 32 := 2#32
  let v264 : BitVec 32 := Scalar.muli v263 c2_i32_180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v265 : BitVec 32 := Scalar.addi v264 v5
  let c1024_i32_183 : BitVec 32 := 1024#32
  let v268 : BitVec 32 := Scalar.muli v265 c1024_i32_183
  let v269 : Index := Scalar.indexCast v268
  ![0, v269.toNat]
def k0_off13 (d0 : Dev nD) : Fin 2 → Nat :=
  let c0_190 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_185 : BitVec 32 := 2#32
  let v271 : BitVec 32 := Scalar.muli v2 c2_i32_185
  let c1_i32_186 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v272 : BitVec 32 := Scalar.subi c1_i32_186 v5
  let v273 : BitVec 32 := Scalar.addi v271 v272
  let c1024_i32_189 : BitVec 32 := 1024#32
  let v276 : BitVec 32 := Scalar.muli v273 c1024_i32_189
  let v277 : Index := Scalar.indexCast v276
  ![0, v277.toNat]
def k0_off14 (d0 : Dev nD) : Fin 2 → Nat :=
  let c0_197 : Index := 0#32
  let c1_i32_191 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v279 : BitVec 32 := Scalar.subi c1_i32_191 v2
  let c2_i32_192 : BitVec 32 := 2#32
  let v280 : BitVec 32 := Scalar.muli v279 c2_i32_192
  let c1_i32_193 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v281 : BitVec 32 := Scalar.subi c1_i32_193 v5
  let v282 : BitVec 32 := Scalar.addi v280 v281
  let c1024_i32_196 : BitVec 32 := 1024#32
  let v285 : BitVec 32 := Scalar.muli v282 c1024_i32_196
  let v286 : Index := Scalar.indexCast v285
  ![0, v286.toNat]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .hbm, ⟨3, _⟩ => ⟨S1024x4096, .f32⟩
  | .hbm, ⟨4, _⟩ => ⟨S1024x4096, .bf16⟩
  | .hbm, ⟨5, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Protocol.lean ====
/-
# The protocol of the gradient kernel: devices, cells, contents, schedule

Sixteen devices sit on a 2 × 2 × 4 mesh; device `c` has coordinates `(x, y, z)` with `c = 8 x + 4 y + z`.
Each device first makes four partial products `part[b]` (256 × 1024), then two pipelines of remote copies run
along `z`: the RIGHT lane carries block `b` from device `z = 0` up to device `z = b`, each device on the way adding
its own partial product; the LEFT lane carries block `b` from `z = 3` down to `z = b`. Device `z` adds what
arrives on both lanes for block `z` to its own partial product. At last the four devices of one `z` exchange their
results: a device sends to its `x` neighbour, to its `y` neighbour, and forwards what its `x` neighbour sent to its
`y` neighbour.

This module names all of it: who is whose neighbour, the 23 semaphore cells of a device, what every copied buffer
holds, the schedule of each cell (who pays it, how much, what it hands over), what a device owes, and in which
order of levels it may wait.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pipeline.Value

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- A cell's duties are named by numbers below four. -/
abbrev D : Type := Fin 4
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-! ## Neighbours -/

/-- The `z` coordinate. -/
abbrev zz (c : Dev nD) : ℕ := c.val % 4

set_option backward.proofsInPublic true in
/-- The device of the other `x`. -/
def xn (c : Dev nD) : Dev nD := ⟨(c.val + 8) % 16, Nat.mod_lt _ (by decide)⟩
set_option backward.proofsInPublic true in
/-- The device of the other `y`. -/
def yn (c : Dev nD) : Dev nD := ⟨c.val / 8 * 8 + (c.val + 4) % 8, by have h : c.val < 16 := c.isLt; show _ < 16; omega⟩
set_option backward.proofsInPublic true in
/-- One step up along `z`, cyclically. -/
def zn (c : Dev nD) : Dev nD := ⟨c.val / 4 * 4 + (c.val + 1) % 4, by have h : c.val < 16 := c.isLt; show _ < 16; omega⟩
set_option backward.proofsInPublic true in
/-- One step down along `z`, cyclically. -/
def zp (c : Dev nD) : Dev nD := ⟨c.val / 4 * 4 + (c.val + 3) % 4, by have h : c.val < 16 := c.isLt; show _ < 16; omega⟩
set_option backward.proofsInPublic true in
/-- The device of `c`'s `x` and `y` whose third coordinate is `n`. -/
def dz (c : Dev nD) (n : ℕ) : Dev nD := ⟨c.val / 4 * 4 + n % 4, by have h : c.val < 16 := c.isLt; show _ < 16; omega⟩

theorem xn_xn (c : Dev nD) : xn (xn c) = c := by revert c; decide
theorem yn_yn (c : Dev nD) : yn (yn c) = c := by revert c; decide
theorem zp_zn (c : Dev nD) : zp (zn c) = c := by revert c; decide
theorem zn_zp (c : Dev nD) : zn (zp c) = c := by revert c; decide
theorem dz_self (c : Dev nD) : dz c (zz c) = c := by revert c; decide
theorem dz_zp (c : Dev nD) (n : ℕ) : dz (zp c) n = dz c n := by
  unfold dz zp; apply Fin.ext; have := c.isLt; dsimp only; omega
theorem dz_zn (c : Dev nD) (n : ℕ) : dz (zn c) n = dz c n := by
  unfold dz zn; apply Fin.ext; have := c.isLt; dsimp only; omega

def eX : Dev nD ≃ Dev nD := ⟨xn, xn, xn_xn, xn_xn⟩
def eY : Dev nD ≃ Dev nD := ⟨yn, yn, yn_yn, yn_yn⟩
def eUp : Dev nD ≃ Dev nD := ⟨zn, zp, zp_zn, zn_zp⟩
def eDn : Dev nD ≃ Dev nD := ⟨zp, zn, zn_zp, zp_zn⟩

/-! ## The buffers -/

abbrev xM : Memref sig .tc .vmem S1024x1024 .bf16 := Memref.whole cc0_stg0_0
abbrev dM : Memref sig .tc .vmem S1024x4096 .bf16 := Memref.whole cc0_stg1_0
abbrev oM : Memref sig .tc .vmem S256x4096 .f32 := Memref.whole cc0_stg2_0
abbrev bM : Memref sig .tc .vmem S1024x1024 .bf16 := Memref.whole cc0_scratch0
abbrev pM : Memref sig .tc .vmem S4x256x1024 .f32 := Memref.whole cc0_scratch1
abbrev aM : Memref sig .tc .vmem S256x1024 .f32 := Memref.whole cc0_scratch2
abbrev gA : Memref sig .tc .vmem S256x1024 .bf16 := Memref.whole cc0_scratch7
abbrev gX : Memref sig .tc .vmem S256x1024 .bf16 := Memref.whole cc0_scratch8
abbrev gY : Memref sig .tc .vmem S256x1024 .bf16 := Memref.whole cc0_scratch9
abbrev gD : Memref sig .tc .vmem S256x1024 .bf16 := Memref.whole cc0_scratch10

/-- A lane's buffer of blocks to send: the right lane is `true`, the left `false`. -/
def SM (A : Bool) : Memref sig .tc .vmem S4x256x1024 .bf16 :=
  match A with | true => Memref.whole cc0_scratch3 | false => Memref.whole cc0_scratch5
/-- A lane's buffer of arriving blocks. -/
def RM (A : Bool) : Memref sig .tc .vmem S4x256x1024 .bf16 :=
  match A with | true => Memref.whole cc0_scratch4 | false => Memref.whole cc0_scratch6

/-- Where block `b` lies in a buffer of four blocks. -/
abbrev slabOff (b : Fin 4) : Fin 3 → ℕ := ![b.val, 0, 0]
theorem slab_inb (b : Fin 4) : ∀ a, slabOff b a + S1x256x1024.size a ≤ S4x256x1024.size a := by revert b; decide
abbrev slabRect (b : Fin 4) : Rect S4x256x1024 := Rect.unit (s := S4x256x1024) (slabOff b) S1x256x1024.size (slab_inb b)
/-- Block `b` of a buffer of four, as the copies name it. -/
abbrev slabM (M : Memref sig .tc .vmem S4x256x1024 .bf16) (b : Fin 4) : Memref sig .tc .vmem S256x1024 .bf16 :=
  (M.slice (slabRect b) (fun _ => rfl)).squeeze S256x1024 squeezes_S1x256x1024_S256x1024

/-- What one copied block credits: half a mebibyte of `bf16`. -/
abbrev N : ℕ := (gA : Memref sig .tc .vmem S256x1024 .bf16).view.dmaCredit
theorem N_pos : 0 < N := View.dmaCredit_pos _ (by decide)

theorem slab_credit (A : Bool) (b : Fin 4) : (slabM (RM A) b).view.dmaCredit = N := by
  cases A <;> rfl

/-! ## The cells -/

/-- The runtime's barrier semaphore. -/
abbrev barS : Sem sig := (SemArray.scalar (sig.barrier 0 rfl) : Sems sig S_).sem
/-- The `k`-th of the kernel's own completion semaphores. -/
abbrev dsem (k : Fin 22) : DmaSem sig := ⟨k.val + 3, by have := k.isLt; show k.val + 3 < 25; omega⟩

abbrev osem : Fin 22 → SemLoc sig := fun k => .dma (dsem k)
/-- A device's 23 cells: the 22 completion semaphores, then the barrier. -/
def csem (k : Fin 23) : SemLoc sig := if h : k.val < 22 then .dma (dsem ⟨k.val, h⟩) else .reg barS
abbrev kcell (ck : Dev nD × Fin 23) : GSem nD τ sig := ((ck.1 : Thread nD τ), csem ck.2)
abbrev dcell (c : Dev nD) (k : Fin 22) : GSem nD τ sig := ((c : Thread nD τ), .dma (dsem k))
abbrev barCell (c : Dev nD) : GSem nD τ sig := ((c : Thread nD τ), .reg barS)

theorem csem_dma (k : Fin 22) : csem ⟨k.val, by omega⟩ = .dma (dsem k) := dif_pos k.isLt
theorem csem_bar : csem 22 = .reg barS := dif_neg (by decide)

/-- A lane's send and receive cells, block by block. -/
def ks (A : Bool) (b : Fin 4) : Fin 22 := match A with | true => ⟨b.val, by omega⟩ | false => ⟨8 + b.val, by omega⟩
def kr (A : Bool) (b : Fin 4) : Fin 22 := match A with | true => ⟨4 + b.val, by omega⟩ | false => ⟨12 + b.val, by omega⟩
/-- The final exchange's send and receive cells. -/
def kas (j : Fin 3) : Fin 22 := ⟨16 + j.val, by omega⟩
def kar (j : Fin 3) : Fin 22 := ⟨19 + j.val, by omega⟩

/-- Whom a device sends to on a lane, and from whom it receives. -/
def tgt (A : Bool) (c : Dev nD) : Dev nD := match A with | true => zn c | false => zp c
def src (A : Bool) (c : Dev nD) : Dev nD := match A with | true => zp c | false => zn c
theorem src_tgt (A : Bool) (c : Dev nD) : src A (tgt A c) = c := by cases A; exact zn_zp c; exact zp_zn c
theorem tgt_src (A : Bool) (c : Dev nD) : tgt A (src A c) = c := by cases A; exact zp_zn c; exact zn_zp c

/-- Whether a device of coordinate `z` passes block `b` on along a lane, -/
def sndZ (A : Bool) (b z : ℕ) : Bool := match A with | true => decide (z < b) | false => decide (b < z)
/-- and whether block `b` comes to it. -/
def rcvZ (A : Bool) (b z : ℕ) : Bool :=
  match A with | true => decide (0 < z) && decide (z ≤ b) | false => decide (z < 3) && decide (b ≤ z)
abbrev snd (A : Bool) (b : Fin 4) (c : Dev nD) : Bool := sndZ A b.val (zz c)
abbrev rcv (A : Bool) (b : Fin 4) (c : Dev nD) : Bool := rcvZ A b.val (zz c)

theorem rcv_tgt (A : Bool) (b : Fin 4) (c : Dev nD) (h : snd A b c = true) : rcv A b (tgt A c) = true := by
  revert A b c; decide
theorem snd_src (A : Bool) (b : Fin 4) (c : Dev nD) (h : rcv A b c = true) : snd A b (src A c) = true := by
  revert A b c; decide

/-! ## Contents -/

/-- Device `c`'s block of `x`, as staged, -/
def xstg (c : Dev nD) : (cc0_stg0_0 : Ref sig .tc).ty.Contents (Elt F) :=
  (win0_0.blk (0 : Fin 1)).view.read (Elt F) ((s₀ m ρ).mem ((c : Thread nD τ).loc main_arg0))
/-- and its block of `dy`. -/
def dstg (c : Dev nD) : (cc0_stg1_0 : Ref sig .tc).ty.Contents (Elt F) :=
  (win0_1.blk (0 : Fin 1)).view.read (Elt F) ((s₀ m ρ).mem ((c : Thread nD τ).loc main_arg1))

theorem col_inb (b : Fin 4) : ∀ a, (![0, b.val * 256] : Fin 2 → ℕ) a + S1024x256.size a ≤ S1024x1024.size a := by
  revert b; decide
/-- The columns of `x` that block `b` of the product is made of. -/
abbrev colRect (b : Fin 4) : Rect S1024x1024 := Rect.unit (s := S1024x1024) ![0, b.val * 256] S1024x256.size (col_inb b)
/-- Columns `256 b …` of device `c`'s block of `x`, -/
def xcol (c : Dev nD) (b : Fin 4) : Vec F S1024x256 .bf16 :=
  xM.view.readAt (Elt F) (colRect b).toLoadRect (xstg m ρ c)
/-- the quarter of its block of `dy` that its coordinates `(x, y)` select, -/
def dquar (c : Dev nD) : Vec F S1024x1024 .bf16 :=
  k0_pay1 (dM.view.readAt (Elt F) (Rect.unit (s := S1024x4096) (k0_off1 c) S1024x1024.size (k0_off1_inb c)).toLoadRect (dstg m ρ c))
/-- the product of both: its partial product of block `b`. -/
def pv (c : Dev nD) (b : Fin 4) : Vec F S1x256x1024 .f32 := k0_pay2 (xcol m ρ c b) (dquar m ρ c)

/-- The device a lane starts from is `z = 0` on the right and `z = 3` on the left; `lz A n` is the coordinate `n` steps on. -/
def lz (A : Bool) (n : ℕ) : ℕ := match A with | true => n | false => 3 - n
/-- How many steps from the start of a lane device `c` is. -/
def steps (A : Bool) (c : Dev nD) : ℕ := match A with | true => zz c | false => 3 - zz c

/-- The running sum for block `b` after `n` steps of a lane: rounded to `bf16` at each device. -/
def svn (A : Bool) (c : Dev nD) (b : Fin 4) : ℕ → Vec F S1x256x1024 .bf16
  | 0 => k0_pay5 (pv m ρ (dz c (lz A 0)) b)
  | n + 1 => k0_pay4 (svn A c b n) (pv m ρ (dz c (lz A (n + 1))) b)
/-- What device `c` sends on a lane for block `b`. -/
def sv (A : Bool) (c : Dev nD) (b : Fin 4) : Vec F S1x256x1024 .bf16 := svn m ρ A c b (steps A c)

/-- Whether device `c` starts a lane. -/
def fst (A : Bool) (c : Dev nD) : Bool := match A with | true => decide (zz c = 0) | false => decide (zz c = 3)

theorem dz_lz (A : Bool) (c : Dev nD) : dz c (lz A (steps A c)) = c := by revert A c; decide
theorem steps_first (A : Bool) (c : Dev nD) (h : fst A c = true) : steps A c = 0 := by revert A c; decide
theorem steps_next (A : Bool) (c : Dev nD) (h : fst A c = false) : steps A c = steps A (src A c) + 1 := by revert A c; decide

theorem svn_src (A : Bool) (c : Dev nD) (b : Fin 4) (n : ℕ) : svn m ρ A (src A c) b n = svn m ρ A c b n := by
  have hd (k : ℕ) : dz (src A c) k = dz c k := by cases A; exact dz_zn c k; exact dz_zp c k
  induction n with
  | zero => unfold svn; rw [hd]
  | succ n ih => unfold svn; rw [hd, ih]

/-- The first device of a lane sends its own partial product; -/
theorem sv_first (A : Bool) (c : Dev nD) (b : Fin 4) (h : fst A c = true) : sv m ρ A c b = k0_pay5 (pv m ρ c b) := by
  unfold sv
  have h0 := steps_first A c h
  have hd := dz_lz A c
  rw [h0] at hd ⊢
  unfold svn; rw [hd]
/-- any other adds its own to what its predecessor sent. -/
theorem sv_next (A : Bool) (c : Dev nD) (b : Fin 4) (h : fst A c = false) :
    sv m ρ A c b = k0_pay4 (sv m ρ A (src A c) b) (pv m ρ c b) := by
  unfold sv
  have hs := steps_next A c h
  have hd := dz_lz A c
  rw [svn_src]
  rw [hs] at hd ⊢
  rw [svn.eq_2, hd]

/-- The block device `c` ends up with, as a number below four. -/
abbrev zb (c : Dev nD) : Fin 4 := ⟨zz c, Nat.mod_lt _ (by decide)⟩

/-- The sum in its accumulator: its own partial product of block `z`, -/
def acc0 (c : Dev nD) : Vec F S256x1024 .f32 := k0_pay20 (k0_pay19 (pv m ρ c (zb c)))
/-- plus what the right lane brought, -/
def acc1 (c : Dev nD) : Vec F S256x1024 .f32 :=
  if fst true c then acc0 m ρ c else k0_pay21 (acc0 m ρ c) (sv m ρ true (zp c) (zb c))
/-- plus what the left lane brought. -/
def acc2 (c : Dev nD) : Vec F S256x1024 .f32 :=
  if fst false c then acc1 m ρ c else k0_pay22 (acc1 m ρ c) (sv m ρ false (zn c) (zb c))
/-- Its result rounded for the exchange. -/
def gv (c : Dev nD) : Vec F S256x1024 .bf16 := k0_pay23 (acc2 m ρ c)

end Cert.KernelIdealProof

end
-- ==== Proof.KernelIdeal.Slabs.lean ====
/-
# Blocks of a buffer of four

The buffers the lanes copy from and into hold four blocks of 256 × 1024. This module says what it is to own one
block, alone and at given contents, and proves what loading, storing and copying a block does; and that a whole
buffer is its four blocks.
-/
module

public import proofs.«01_k».proof.Proof.KernelIdeal.Protocol

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Views

variable (M M' : Memref sig .tc .vmem S4x256x1024 .bf16) (b : Fin 4)

/-- The elements under a block. -/
abbrev slabSet : Finset M.view.ty.Idx := (slabM M b).view.set

theorem slabSet_eq : slabSet M b = (M.view.slice (slabRect b)).set := View.set_reshape _ _

theorem slab_load_sub : M.view.setOn (slabRect b).toLoadRect.set ⊆ slabSet M b := by
  rw [slabSet_eq]
  rw [View.set_slice]; exact Finset.Subset.refl _

theorem slab_store_sub (Mk) : (M.access (slabRect b)).setOn Mk ⊆ slabSet M b := by
  rw [slabSet_eq]; exact View.setOn_subset_set (v := M.view.slice (slabRect b)) _

/-- What a load of block `b` returns. -/
abbrev slabRd (f : M.view.ty.Contents (Elt F)) : Vec F S1x256x1024 .bf16 := M.view.readAt (Elt F) (slabRect b).toLoadRect f

omit [FloatOps F] in
/-- A stored block is read back. -/
theorem slabRd_store (f : M.view.ty.Contents (Elt F)) (w : Vec F S1x256x1024 .bf16) :
    slabRd M b ((M.access (slabRect b)).write (Elt F) f w Finset.univ) = w := by
  exact View.read_write_univ (v := M.view.slice (slabRect b)) f w

omit [FloatOps F] in
theorem slab_read (f : M.view.ty.Contents (Elt F)) :
    (slabM M b).view.read (Elt F) f = shapeCast S256x1024 (slabRd M b f) shapeCasts_S1x256x1024_S256x1024 :=
  Memref.read_squeeze_slice M (slabRect b) (fun _ => rfl) squeezes_S1x256x1024_S256x1024 shapeCasts_S1x256x1024_S256x1024 f

omit [FloatOps F] in
/-- Dropping the leading axis of a block loses nothing. -/
theorem cast_inj {v w : Vec F S1x256x1024 .bf16}
    (h : shapeCast S256x1024 v shapeCasts_S1x256x1024_S256x1024 = shapeCast S256x1024 w shapeCasts_S1x256x1024_S256x1024) : v = w := by
  have h2 := congrArg (fun u => shapeCast S1x256x1024 u shapeCasts_S256x1024_S1x256x1024) h
  simp only [shapeCast_shapeCast, shapeCast_self] at h2
  exact h2

omit [FloatOps F] in
/-- A block copied into another buffer's block reads there as it read here. -/
theorem slabRd_copy (b' : Fin 4) (fd : M'.view.ty.Contents (Elt F)) (fs : M.view.ty.Contents (Elt F)) :
    slabRd M' b' ((slabM M' b').view.write (Elt F) fd ((slabM M b).view.read (Elt F) fs) Finset.univ) = slabRd M b fs := by
  apply cast_inj
  rw [← slab_read, ← slab_read, View.read_write_univ]

end Views

/-! ## Owning one block -/

section Own

variable (M : Memref sig .tc .vmem S4x256x1024 .bf16) (c : Dev nD) (b : Fin 4)

/-- Block `b` of device `c`'s buffer, at contents `f`. -/
abbrev slabPts (f : Buf (Elt F) (M.view.loc (c : Thread nD τ))) : sProp 𝕄 :=
  M.view.loc (c : Thread nD τ) ↦[slabSet M b]{fullShare} f
/-- Block `b`, whatever it holds. -/
def slabAny : sProp 𝕄 := iprop(∃ f : Buf (Elt F) (M.view.loc (c : Thread nD τ)), slabPts M c b f)
/-- Block `b`, holding `V`. -/
def slabIs (V : Vec F S1x256x1024 .bf16) : sProp 𝕄 :=
  iprop(∃ f : Buf (Elt F) (M.view.loc (c : Thread nD τ)), ⌜slabRd M b f = V⌝ ∗ slabPts M c b f)

omit [FloatOps F] in
theorem slabIs_any (V : Vec F S1x256x1024 .bf16) : slabIs M c b V ⊢ slabAny M c b := by
  unfold slabIs slabAny
  iintro ⟨%f, -, H⟩; iexists f; iexact H

omit [FloatOps F] in
instance slabAny_storable : BI.Storable (upEmb : UEmb _ 𝕄) (slabAny (F := F) M c b) := by unfold slabAny; infer_instance
omit [FloatOps F] in
instance slabIs_storable (V : Vec F S1x256x1024 .bf16) : BI.Storable (upEmb : UEmb _ 𝕄) (slabIs M c b V) := by unfold slabIs; infer_instance

end Own

/-! ## A buffer is its four blocks -/

/-- Four pieces, conjoined. -/
def s4 (P : Fin 4 → sProp 𝕄) : sProp 𝕄 := iprop(P 0 ∗ P 1 ∗ P 2 ∗ P 3)
omit [FloatOps F] in
theorem s4_eq (P : Fin 4 → sProp 𝕄) : s4 P = bigSep Finset.univ P := by
  rw [bigSep_univ_eq_bigSepL [0, 1, 2, 3] (by decide) (by decide)]; rfl
omit [FloatOps F] in
theorem s4_mono {P Q : Fin 4 → sProp 𝕄} (h : ∀ b, P b ⊢ Q b) : s4 P ⊢ s4 Q := by
  rw [s4_eq, s4_eq]; exact bigSep_mono fun b _ => h b
omit [FloatOps F] in
theorem s4_sep (P Q : Fin 4 → sProp 𝕄) : s4 (fun b => iprop(P b ∗ Q b)) = iprop(s4 P ∗ s4 Q) := by
  rw [s4_eq, s4_eq, s4_eq, bigSep_sep']
omit [FloatOps F] in
instance s4_storable (P : Fin 4 → sProp 𝕄) [∀ b, BI.Storable (upEmb : UEmb _ 𝕄) (P b)] : BI.Storable (upEmb : UEmb _ 𝕄) (s4 P) := by
  unfold s4; infer_instance

theorem slab_disjoint (M : Memref sig .tc .vmem S4x256x1024 .bf16) (b b' : Fin 4) (h : b ≠ b') :
    Disjoint (slabSet M b) (slabSet M b') := by
  rw [slabSet_eq, slabSet_eq]
  refine View.disjoint_slice_of_sep M.view (slabRect b) (slabRect b') 0 rfl rfl ?_
  have hn : b.val ≠ b'.val := fun hh => h (Fin.ext hh)
  show b.val + 1 ≤ b'.val ∨ b'.val + 1 ≤ b.val
  omega

theorem slab_cover (M : Memref sig .tc .vmem S4x256x1024 .bf16) : (Finset.univ : Finset (Fin 4)).biUnion (slabSet M) = M.view.set := by
  ext i
  simp only [Finset.mem_biUnion, Finset.mem_univ, true_and]
  constructor
  · rintro ⟨b, hb⟩; rw [slabSet_eq] at hb; exact View.set_slice_subset (v := M.view) _ hb
  · intro hi
    obtain ⟨x, -, rfl⟩ := Finset.mem_map.mp hi
    have h0 : (x 0).val < 4 := (x 0).isLt
    refine ⟨⟨(x 0).val, h0⟩, ?_⟩
    rw [slabSet_eq]
    rw [View.set_slice]
    refine Finset.mem_map_of_mem _ (Rect.mem_set_unit.mpr fun a => ?_)
    have := (x a).isLt
    fin_cases a
    · exact ⟨Nat.le_refl _, Nat.lt_succ_self _⟩
    · exact ⟨Nat.zero_le _, by simpa using this⟩
    · exact ⟨Nat.zero_le _, by simpa using this⟩

omit [FloatOps F] in
/-- A whole buffer of four blocks, held by its blocks. -/
theorem slabs_split (M : Memref sig .tc .vmem S4x256x1024 .bf16) (c : Dev nD) (f : Buf (Elt F) (M.view.loc (c : Thread nD τ))) :
    (M.view.loc (c : Thread nD τ) ↦[M.view.set]{fullShare} f : sProp 𝕄) ⊢ s4 (slabAny M c) := by
  rw [← slab_cover M, pointsTo_biUnion _ _ (fun b _ b' _ h => slab_disjoint M b b' h), s4_eq]
  refine bigSep_mono fun b _ => ?_
  show _ ⊢ slabAny M c b
  unfold slabAny
  iintro H; iexists f; iexact H

omit [FloatOps F] in
/-- And back. -/
theorem slabs_join (M : Memref sig .tc .vmem S4x256x1024 .bf16) (c : Dev nD) :
    s4 (slabAny M c) ⊢ (iprop(∃ f : Buf (Elt F) (M.view.loc (c : Thread nD τ)), M.view.loc (c : Thread nD τ) ↦[M.view.set]{fullShare} f) : sProp 𝕄) := by
  unfold s4 slabAny
  iintro ⟨⟨%f0, H0⟩, ⟨%f1, H1⟩, ⟨%f2, H2⟩, %f3, H3⟩
  let fs : Fin 4 → Buf (Elt F) (M.view.loc (c : Thread nD τ)) := fun | 0 => f0 | 1 => f1 | 2 => f2 | 3 => f3
  ihave H := (pointsTo_biUnion_join (q := fullShare) Finset.univ (slabSet M) fs f0 (fun b _ b' _ h => slab_disjoint M b b' h)) $$ [H0 H1 H2 H3]
  · rw [← s4_eq]; unfold s4
    isplitl [H0]; · iexact H0
    isplitl [H1]; · iexact H1
    isplitl [H2]; · iexact H2
    iexact H3
  icases H with ⟨%g, -, H⟩
  iexists g
  rw [slab_cover M]
  iexact H

omit [FloatOps F] in
theorem SM_set (A : Bool) : (SM A).view.set = Finset.univ := by cases A <;> exact View.set_whole _
omit [FloatOps F] in
theorem RM_set (A : Bool) : (RM A).view.set = Finset.univ := by cases A <;> exact View.set_whole _

end Cert.KernelIdealProof

end
-- ==== Proof.KernelIdeal.Schedule.lean ====
/-
# The schedule of the cells

Every cell has one round. A device's barrier cell is paid one unit by each neighbour, and each unit hands over the
buffers that neighbour will receive into; a lane's receive cell is paid by the copy into its block; a send cell by
the copy out of it. This module states it, with the order in which a device pays what it owes and the levels that
keep the waits free of cycles.
-/
module

public import proofs.«01_k».proof.Proof.KernelIdeal.Slabs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers of the final exchange -/

section Whole

variable (M : Memref sig .tc .vmem S256x1024 .bf16) (c : Dev nD)

/-- A share of device `c`'s buffer, whatever it holds. -/
def gAny (q : PosShare TreeShare) : sProp 𝕄 :=
  iprop(∃ f : Buf (Elt F) (M.view.loc (c : Thread nD τ)), M.view.loc (c : Thread nD τ) ↦[M.view.set]{q} f)
/-- A share of device `c`'s buffer, holding `V`. -/
def gIs (q : PosShare TreeShare) (V : Vec F S256x1024 .bf16) : sProp 𝕄 :=
  iprop(∃ f : Buf (Elt F) (M.view.loc (c : Thread nD τ)), ⌜M.view.read (Elt F) f = V⌝ ∗ M.view.loc (c : Thread nD τ) ↦[M.view.set]{q} f)

omit [FloatOps F] in
instance gAny_storable (q) : BI.Storable (upEmb : UEmb _ 𝕄) (gAny (F := F) M c q) := by unfold gAny; infer_instance
omit [FloatOps F] in
instance gIs_storable (q) (V : Vec F S256x1024 .bf16) : BI.Storable (upEmb : UEmb _ 𝕄) (gIs M c q V) := by unfold gIs; infer_instance

omit [FloatOps F] in
theorem gIs_any (q) (V : Vec F S256x1024 .bf16) : gIs M c q V ⊢ gAny M c q := by
  unfold gIs gAny
  iintro ⟨%f, -, H⟩; iexists f; iexact H

omit [FloatOps F] in
/-- A buffer in two halves, both holding what the whole held; -/
theorem gIs_halves (V : Vec F S256x1024 .bf16) :
    gIs M c fullShare V ⊢ iprop(gIs M c fullShare.left V ∗ gIs M c fullShare.right V) := by
  unfold gIs
  iintro ⟨%f, %hf, H⟩
  ihave H' := (pointsTo_share (q := fullShare) (q₁ := fullShare.left) (q₂ := fullShare.right)
    (by rw [PosShare.left_op_right]; exact Part.mem_some _)).1 $$ H
  icases H' with ⟨H1, H2⟩
  isplitl [H1]
  · iexists f; isplitr; · ipureintro; exact hf
    iexact H1
  · iexists f; isplitr; · ipureintro; exact hf
    iexact H2

omit [FloatOps F] in
/-- and the two halves are the buffer again. -/
theorem gAny_join : iprop(gAny (F := F) M c fullShare.left ∗ gAny M c fullShare.right) ⊢ gAny M c fullShare := by
  unfold gAny
  iintro ⟨⟨%f, H1⟩, %g, H2⟩
  icombine H1 H2 as H
  ihave %hag := pointsTo_agree $$ H
  icases H with ⟨H1, H2⟩
  ihave H2' := (Entails.of_eq (pointsTo_congr (f := g) (g := f) fun i hi => ((hag i (Finset.mem_inter.mpr ⟨hi, hi⟩)).1).symm)) $$ H2
  iexists f
  iapply (pointsTo_share (q := fullShare) (q₁ := fullShare.left) (q₂ := fullShare.right)
    (by rw [PosShare.left_op_right]; exact Part.mem_some _)).2
  isplitl [H1] <;> iassumption

end Whole

/-! ## What a payment hands over -/

/-- What holds only under a condition. -/
def cnd (p : Bool) (P : sProp 𝕄) : sProp 𝕄 := if p then P else iprop(emp)
omit [FloatOps F] in
theorem cnd_true (P : sProp 𝕄) : cnd true P = P := if_pos rfl
omit [FloatOps F] in
theorem cnd_false (P : sProp 𝕄) : cnd false P = iprop(emp) := if_neg Bool.false_ne_true
omit [FloatOps F] in
instance cnd_storable (p : Bool) (P : sProp 𝕄) [BI.Storable (upEmb : UEmb _ 𝕄) P] : BI.Storable (upEmb : UEmb _ 𝕄) (cnd p P) := by
  unfold cnd; split <;> infer_instance

/-- What the neighbours' barrier signals hand device `c`: its `x` neighbour the buffer it receives from `c`; its `y`
    neighbour the two it receives from `c`; the device below and the device above the blocks `c` sends to them. -/
def barPay (c : Dev nD) (d : D) : sProp 𝕄 :=
  match d with
  | 0 => gAny gX (xn c) fullShare
  | 1 => iprop(gAny gY (yn c) fullShare ∗ gAny gD (yn c) fullShare)
  | 2 => s4 fun b => cnd (snd false b c) (slabAny (RM false) (tgt false c) b)
  | 3 => s4 fun b => cnd (snd true b c) (slabAny (RM true) (tgt true c) b)

/-- What a finished copy hands device `c`, by the number of the completion semaphore. -/
def dmaPay (c : Dev nD) (n : Fin 22) : sProp 𝕄 :=
  match n with
  | 0 => slabAny (SM true) c 0 | 1 => slabAny (SM true) c 1 | 2 => slabAny (SM true) c 2 | 3 => slabAny (SM true) c 3
  | 4 => slabIs (RM true) c 0 (sv m ρ true (zp c) 0) | 5 => slabIs (RM true) c 1 (sv m ρ true (zp c) 1)
  | 6 => slabIs (RM true) c 2 (sv m ρ true (zp c) 2) | 7 => slabIs (RM true) c 3 (sv m ρ true (zp c) 3)
  | 8 => slabAny (SM false) c 0 | 9 => slabAny (SM false) c 1 | 10 => slabAny (SM false) c 2 | 11 => slabAny (SM false) c 3
  | 12 => slabIs (RM false) c 0 (sv m ρ false (zn c) 0) | 13 => slabIs (RM false) c 1 (sv m ρ false (zn c) 1)
  | 14 => slabIs (RM false) c 2 (sv m ρ false (zn c) 2) | 15 => slabIs (RM false) c 3 (sv m ρ false (zn c) 3)
  | 16 => gAny gA c fullShare.left | 17 => gAny gA c fullShare.right | 18 => gAny gX c fullShare.left
  | 19 => gIs gX c fullShare (gv m ρ (xn c)) | 20 => gIs gY c fullShare (gv m ρ (yn c)) | _ => gIs gD c fullShare (gv m ρ (xn (yn c)))

/-- Whether a completion semaphore is used on a device of coordinate `z`. -/
def act (n : Fin 22) (z : ℕ) : Bool :=
  match n with
  | 0 => sndZ true 0 z | 1 => sndZ true 1 z | 2 => sndZ true 2 z | 3 => sndZ true 3 z
  | 4 => rcvZ true 0 z | 5 => rcvZ true 1 z | 6 => rcvZ true 2 z | 7 => rcvZ true 3 z
  | 8 => sndZ false 0 z | 9 => sndZ false 1 z | 10 => sndZ false 2 z | 11 => sndZ false 3 z
  | 12 => rcvZ false 0 z | 13 => rcvZ false 1 z | 14 => rcvZ false 2 z | 15 => rcvZ false 3 z
  | 16 => true | 17 => true | 18 => true | 19 => true | 20 => true | _ => true

/-- Who signals a device's barrier: both plane neighbours always, the device below unless `z = 0`, the one above unless `z = 3`. -/
def barD (z : ℕ) : Finset D := if z = 0 then {0, 1, 3} else if z = 3 then {0, 1, 2} else Finset.univ

/-- The number of a completion semaphore among the kernel's own, if it is one. -/
def own? (s : DmaSem sig) : Option (Fin 22) :=
  if h : 3 ≤ s.val then some ⟨s.val - 3, by have h' : s.val < 25 := s.isLt; omega⟩ else none
theorem own_dsem (k : Fin 22) : own? (dsem k) = some k := by
  unfold own?
  rw [dif_pos (show 3 ≤ (dsem k).val by show 3 ≤ k.val + 3; omega)]
  exact congrArg some (Fin.ext (Nat.add_sub_cancel _ _))

/-- The protocol: one round; see the module's head. -/
def Rd : Rounds.Schedule (GSem nD τ sig) D 𝕄 where
  duties g r := if r = 0 ∧ g.1.2 = .tc then
    (match g.2 with
      | .reg _ => barD (zz g.1.1)
      | .dma s => match own? s with | some k => if act k (zz g.1.1) then {0} else ∅ | none => ∅) else ∅
  unitless _ := False
  amount g _ _ := match g.2 with | .reg _ => 1 | .dma _ => N
  payload g _ d := match g.2 with
    | .reg _ => barPay g.1.1 d
    | .dma s => match own? s with | some k => dmaPay m ρ g.1.1 k | none => iprop(emp)
  amount_pos g _ _ _ := by
    cases g.2 with
    | reg _ => exact Nat.one_pos
    | dma _ => exact N_pos

instance Rd_storable (g : GSem nD τ sig) (r : ℕ) (d : D) : BI.Storable (upEmb : UEmb _ 𝕄) ((Rd (F := F) m ρ).payload g r d) := by
  dsimp only [Rd]
  split
  · unfold barPay; split <;> infer_instance
  · split
    · unfold dmaPay; split <;> infer_instance
    · infer_instance

section Sched
variable (c : Dev nD) (k : Fin 22)

theorem duties_dma (h : act k (zz c) = true) : (Rd (F := F) m ρ).duties (dcell c k) 0 = {0} := by
  dsimp only [Rd]; rw [if_pos ⟨rfl, rfl⟩]; simp only [own_dsem, h, if_true]
theorem duties_dma_off (h : act k (zz c) = false) (r : ℕ) : (Rd (F := F) m ρ).duties (dcell c k) r = ∅ := by
  dsimp only [Rd]; split
  · simp only [own_dsem, h]; rfl
  · rfl
theorem duties_bar : (Rd (F := F) m ρ).duties (barCell c) 0 = barD (zz c) := by dsimp only [Rd]; exact if_pos ⟨rfl, rfl⟩
theorem duties_later (g : GSem nD τ sig) : ∀ r, 1 ≤ r → (Rd (F := F) m ρ).duties g r = ∅ :=
  fun r hr => by dsimp only [Rd]; rw [if_neg fun h => by omega]
theorem amount_dma (d : D) : (Rd (F := F) m ρ).amount (dcell c k) 0 d = N := rfl
theorem amount_bar (d : D) : (Rd (F := F) m ρ).amount (barCell c) 0 d = 1 := rfl
theorem payload_dma (d : D) : (Rd (F := F) m ρ).payload (dcell c k) 0 d = dmaPay m ρ c k := by
  dsimp only [Rd]; simp only [own_dsem]
theorem payload_bar (d : D) : (Rd (F := F) m ρ).payload (barCell c) 0 d = barPay c d := rfl
theorem expect_dma (h : act k (zz c) = true) : (Rd (F := F) m ρ).expect (dcell c k) 0 = N := by
  unfold Schedule.expect Schedule.amountOf; rw [duties_dma m ρ c k h, Finset.sum_singleton, amount_dma]
theorem expect_bar : (Rd (F := F) m ρ).expect (barCell c) 0 = (barD (zz c)).card := by
  unfold Schedule.expect Schedule.amountOf
  rw [duties_bar, Finset.sum_congr rfl fun d _ => amount_bar m ρ c d, Finset.sum_const, smul_eq_mul, Nat.mul_one]
theorem rest_dma (h : act k (zz c) = true) :
    bigSep ((Rd (F := F) m ρ).duties (dcell c k) 0 \ ∅) (fun d => (Rd (F := F) m ρ).payload (dcell c k) 0 d) = dmaPay m ρ c k := by
  rw [Finset.sdiff_empty, duties_dma m ρ c k h, bigSep_singleton, payload_dma]

end Sched

/-! ## The lanes' rows of the table -/

section Lanes
variable (A : Bool) (b : Fin 4) (c : Dev nD)

theorem act_ks : act (ks A b) (zz c) = snd A b c := by revert A b c; decide
theorem act_kr : act (kr A b) (zz c) = rcv A b c := by revert A b c; decide
theorem pay_ks : dmaPay m ρ c (ks A b) = slabAny (SM A) c b := by cases A <;> fin_cases b <;> rfl
theorem pay_kr : dmaPay m ρ c (kr A b) = slabIs (RM A) c b (sv m ρ A (src A c) b) := by cases A <;> fin_cases b <;> rfl

end Lanes

/-! ## What a device owes, in the order it pays -/

/-- Whom the `e`-th payment goes to, -/
def oT (e : Fin 13) (c : Dev nD) : Dev nD :=
  match e with
  | 0 => xn c | 1 => yn c | 2 => zn c | 3 => zp c | 4 => zn c | 5 => zp c | 6 => zn c | 7 => zp c | 8 => zn c | 9 => zp c
  | 10 => xn c | 11 => yn c | 12 => yn c
/-- its inverse: who pays it to device `c`, -/
def oI (e : Fin 13) (c : Dev nD) : Dev nD :=
  match e with
  | 0 => xn c | 1 => yn c | 2 => zp c | 3 => zn c | 4 => zp c | 5 => zn c | 6 => zp c | 7 => zn c | 8 => zp c | 9 => zn c
  | 10 => xn c | 11 => yn c | 12 => yn c
/-- to which of the 23 cells, -/
def oK (e : Fin 13) : Fin 23 :=
  match e with
  | 0 => 22 | 1 => 22 | 2 => 22 | 3 => 22 | 4 => 7 | 5 => 12 | 6 => 6 | 7 => 13 | 8 => 5 | 9 => 14
  | 10 => 19 | 11 => 20 | 12 => 21
/-- and whether it is made at all. -/
def oC (e : Fin 13) (c : Dev nD) : Bool :=
  match e with
  | 0 => true | 1 => true | 2 => decide (zz c ≠ 3) | 3 => decide (zz c ≠ 0)
  | 4 => snd true 3 c | 5 => snd false 0 c | 6 => snd true 2 c | 7 => snd false 1 c | 8 => snd true 1 c | 9 => snd false 2 c
  | 10 => true | 11 => true | 12 => true
def oN (e : Fin 13) : ℕ := if e.val < 4 then 1 else N
theorem oT_oI (e : Fin 13) (c : Dev nD) : oT e (oI e c) = c := by revert e c; decide
theorem oI_oT (e : Fin 13) (c : Dev nD) : oI e (oT e c) = c := by revert e c; decide

/-- The `e`-th payment. -/
def oterm (e : Fin 13) (c : Dev nD) : CellTallies nD τ sig Unit :=
  tallyAt (kcell (oT e c, oK e)) () (if oC e c then oN e else 0)
/-- All payments from the `j`-th on. -/
def Ow (c : Dev nD) (j : ℕ) : CellTallies nD τ sig Unit :=
  ∑ e ∈ (Finset.univ : Finset (Fin 13)).filter (fun e => j ≤ e.val), oterm e c

theorem Ow_peel (c : Dev nD) (e : Fin 13) : Ow c e.val = Ow c (e.val + 1) + oterm e c := by
  unfold Ow
  have h : (Finset.univ : Finset (Fin 13)).filter (fun e' => e.val ≤ e'.val)
      = insert e ((Finset.univ : Finset (Fin 13)).filter (fun e' => e.val + 1 ≤ e'.val)) := by
    revert e; decide
  rw [h, Finset.sum_insert (by simp), add_comm]
theorem Ow_end (c : Dev nD) : Ow c 13 = 0 := by
  unfold Ow
  rw [show (Finset.univ : Finset (Fin 13)).filter (fun e => 13 ≤ e.val) = ∅ from by decide, Finset.sum_empty]

theorem tallyAt_zero (g : GSem nD τ sig) : (tallyAt g () 0 : CellTallies nD τ sig Unit) = 0 := by
  unfold tallyAt; rw [Finsupp.single_zero, tallyOn_zero]

theorem oterm_off (e : Fin 13) (c : Dev nD) (h : oC e c = false) : oterm e c = 0 := by
  unfold oterm; rw [h]; exact tallyAt_zero _
theorem oterm_bar (e : Fin 13) (he : e.val < 4) (c : Dev nD) (h : oC e c = true) : oterm e c = tallyAt (barCell (oT e c)) () 1 := by
  unfold oterm oN; rw [h, if_pos rfl, if_pos he]
  have hk : oK e = 22 := by clear h; revert e; decide
  rw [hk]; unfold kcell; rw [csem_bar]
/-- The payments that are copies. -/
theorem oterm_dma (e : Fin 13) (k : Fin 22) (he : 4 ≤ e.val) (hk : oK e = ⟨k.val, by omega⟩) (c : Dev nD) (h : oC e c = true) :
    oterm e c = tallyAt (dcell (oT e c) k) () N := by
  unfold oterm oN; rw [h, if_pos rfl, if_neg (by omega), hk]; unfold kcell; rw [csem_dma]

/-! ## Levels -/

/-- A completion semaphore's level on a device of coordinate `z`: the lanes' blocks in the order the devices send them, within a
    block along the lane, then the final exchange. -/
def lvD (k : Fin 22) (z : ℕ) : ℕ :=
  match k with
  | 7 => 10 + z | 12 => 20 + (3 - z) | 6 => 30 + z | 13 => 40 + (3 - z) | 5 => 50 + z | 14 => 60 + (3 - z)
  | 19 => 100 | 20 => 100 | 21 => 101 | _ => 0
def lv (g : GSem nD τ sig) (_ : Unit) : ℕ :=
  match g.2 with
  | .reg _ => 1
  | .dma s => match own? s with | some k => lvD k (zz g.1.1) | none => 0
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvK (k : Fin 23) (z : ℕ) : ℕ := if h : k.val < 22 then lvD ⟨k.val, h⟩ z else 1
theorem lv_kcell (c : Dev nD) (k : Fin 23) : lv (kcell (c, k)) () = lvK k (zz c) := by
  unfold kcell csem lvK lv
  by_cases h : k.val < 22
  · simp only [h, dif_pos, own_dsem]
  · simp only [h, dif_neg, not_false_eq_true]

theorem Ow_pos {c : Dev nD} {j : ℕ} {g : GSem nD τ sig} {u : Unit} (h : 0 < Ow c j g u) :
    ∃ e : Fin 13, j ≤ e.val ∧ oC e c = true ∧ g = kcell (oT e c, oK e) := by
  unfold Ow at h
  rw [Finset.sum_apply, Finsupp.finsetSum_apply] at h
  obtain ⟨e, he, hp⟩ := Finset.exists_ne_zero_of_sum_ne_zero (Nat.pos_iff_ne_zero.mp h)
  refine ⟨e, (Finset.mem_filter.mp he).2, ?_⟩
  unfold oterm at hp
  rw [tallyAt_apply] at hp
  by_cases hg : g = kcell (oT e c, oK e) ∧ u = ()
  · refine ⟨?_, hg.1⟩
    by_contra hc
    rw [if_pos hg, if_neg hc] at hp
    exact hp rfl
  · rw [if_neg hg] at hp; exact absurd rfl hp

/-- A device may wait on a set of its cells below every payment it still owes. -/
theorem mayOwe (c : Dev nD) (W : Waits sig Unit) (l j : ℕ) (hW : ∀ p ∈ W, lv ((c : Thread nD τ), p.1) () ≤ l)
    (h : ∀ e : Fin 13, j ≤ e.val → oC e c = true → l < lvK (oK e) (zz (oT e c))) :
    (levAts L lv : sProp 𝕄) ⊢ MayOwe (c : Thread nD τ) W (Ow c j) :=
  MayOwe.of_cut (L := L) (lev := lv) l
    (fun p _ => by rw [L_tc]; exact Finset.mem_singleton_self _)
    (fun g u hg => by obtain ⟨e, -, -, rfl⟩ := Ow_pos hg; exact Finset.mem_singleton_self _)
    hW
    (fun g u hg => by obtain ⟨e, h1, h2, rfl⟩ := Ow_pos hg; rw [show u = () from rfl, lv_kcell]; exact h e h1 h2)

theorem lv_dcell (c : Dev nD) (k : Fin 22) : lv (dcell c k) () = lvD k (zz c) := by
  unfold lv; simp only [own_dsem]

/-- So it may wait on one of its completion semaphores. -/
theorem mayWait (c : Dev nD) (k : Fin 22) (j : ℕ)
    (h : ∀ e : Fin 13, j ≤ e.val → oC e c = true → lvD k (zz c) < lvK (oK e) (zz (oT e c))) :
    (levAts L lv : sProp 𝕄) ⊢ MayWait (c : Thread nD τ) (.dma (dsem k)) () (Ow c j) :=
  mayOwe c _ (lvD k (zz c)) j (fun p hp => by rw [Finset.mem_singleton.mp hp]; exact (lv_dcell c k).le) h

end Cert.KernelIdealProof

end
-- ==== Proof.KernelIdeal.Steps.lean ====
/-
# One step of a device, by kind

The kernel is made of few kinds of step: a signal, the barrier wait, a matmul into a block of `part`, and on a lane a
block received and added to, a first block rounded, a block sent, a send waited for. Each is proved once here, for
any device, lane and block, against the protocol; the modules after this one run the kernel by them.
-/
module

public import proofs.«01_k».proof.Proof.KernelIdeal.Schedule

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `p` on device `c`, ending in `Q`. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem run_ret {α : Type} {c : Dev nD} {a : α} {Q : α → sProp 𝕄} : Q a ⊢ Run c (.ret a) Q := by
  unfold Run; rw [wp_ret]; iintro H; imodintro; iexact H
theorem run_bind {α β : Type} {c : Dev nD} {p : Prog (TpuEff nD τ sig (Elt F) Λ₀ .tc) α} {k : α → Prog (TpuEff nD τ sig (Elt F) Λ₀ .tc) β}
    {Q : β → sProp 𝕄} : Run c (p.bind k) Q = Run c p fun a => Run c (k a) Q := wp_bind _ _ _ p k Q

variable (K : Dev nD × Fin 23 → ℕ)

/-! ## What every device knows -/

/-- Every cell's invariant, every cell at its first round, the levels. -/
def Env : sProp 𝕄 :=
  iprop((bigSep Finset.univ fun ck : Dev nD × Fin 23 => cellInv ER (Rd m ρ) (K ck) (kcell ck))
    ∗ (bigSep Finset.univ fun ck : Dev nD × Fin 23 => reached ER (kcell ck) 0)
    ∗ levAts L lv)

instance Env_persistent : BI.Persistent (Env m ρ K) := by unfold Env; infer_instance

theorem env_inv (ck : Dev nD × Fin 23) : Env m ρ K ⊢ cellInv ER (Rd m ρ) (K ck) (kcell ck) := by
  unfold Env
  iintro ⟨H, -, -⟩
  iapply (show (bigSep Finset.univ fun ck : Dev nD × Fin 23 => (cellInv ER (Rd m ρ) (K ck) (kcell ck) : sProp 𝕄))
    ⊢ cellInv ER (Rd m ρ) (K ck) (kcell ck) from bigSep_elim (Finset.mem_univ ck)) $$ H
theorem env_reached (ck : Dev nD × Fin 23) : Env m ρ K ⊢ reached ER (kcell ck) 0 := by
  unfold Env
  iintro ⟨-, H, -⟩
  iapply (show (bigSep Finset.univ fun ck : Dev nD × Fin 23 => (reached ER (kcell ck) 0 : sProp 𝕄))
    ⊢ reached ER (kcell ck) 0 from bigSep_elim (Finset.mem_univ ck)) $$ H
theorem env_lev : Env m ρ K ⊢ levAts L lv := by
  unfold Env
  iintro ⟨-, -, H⟩
  iexact H

/-- The name of a completion cell's invariant, and of a barrier's. -/
abbrev nmD (c : Dev nD) (k : Fin 22) : ℕ := K (c, ⟨k.val, by omega⟩)
abbrev nmB (c : Dev nD) : ℕ := K (c, 22)
theorem kcell_dma (c : Dev nD) (k : Fin 22) : kcell (c, ⟨k.val, by omega⟩) = dcell c k := by unfold kcell; rw [csem_dma]
theorem kcell_bar (c : Dev nD) : kcell (c, 22) = barCell c := by unfold kcell; rw [csem_bar]

theorem inv_dma (c : Dev nD) (k : Fin 22) : Env m ρ K ⊢ cellInv ER (Rd m ρ) (nmD K c k) (dcell c k) := by
  rw [← kcell_dma]; exact env_inv m ρ K _
theorem inv_bar (c : Dev nD) : Env m ρ K ⊢ cellInv ER (Rd m ρ) (nmB K c) (barCell c) := by
  rw [← kcell_bar]; exact env_inv m ρ K _
theorem at_dma (c : Dev nD) (k : Fin 22) : Env m ρ K ⊢ reached ER (dcell c k) 0 := by
  rw [← kcell_dma]; exact env_reached m ρ K _
theorem at_bar (c : Dev nD) : Env m ρ K ⊢ reached ER (barCell c) 0 := by
  rw [← kcell_bar]; exact env_reached m ρ K _

/-- What device `c` owes from its `j`-th payment on, whatever waits it has recorded. -/
def owsX (c : Dev nD) (j : ℕ) : sProp 𝕄 := iprop(∃ W, owes (c : Thread nD τ) (Ow c j) W)

/-! ## Signals -/

/-- A signal to a neighbour's barrier, with what is handed over. -/
theorem signal_step {c : Dev nD} (e : Fin 13) (d : D) (hd : d.val = e.val) (hc : oC e c = true) {n : Dev nD} (hn : n = oT e c)
    {α : Type} {p : PUnit → Prog (TpuEff nD τ sig (Elt F) Λ₀ .tc) α} {Q : α → sProp 𝕄} :
    iprop(Env m ρ K ∗ owsX c e.val ∗ dutyTok ER (barCell (oT e c)) 0 d ∗ barPay (oT e c) d)
      ⊢ iprop((owsX c (e.val + 1) -∗ Run c (p ⟨⟩) Q)
        -∗ Run c (.op (.semSignal (Dev.tc n : Thread nD τ) barS (1#32).toInt) p) Q) := by
  have he : e.val < 4 := hd ▸ d.isLt
  subst hn
  unfold owsX
  iintro ⟨#HE, ⟨%W, HO⟩, Ht, HP⟩ Hk
  rw [Ow_peel c e, oterm_bar e he c hc]
  iapply (Rounds.wp_signal 𝒱₀ ER (Rd m ρ) (c : Thread nD τ) none (dst := (oT e c : Thread nD τ)) (κ := nmB K (oT e c))
    (d := d) (by rw [duties_bar]; clear * - hc hd; revert hc hd; revert c e d; decide) ((amount_bar m ρ (oT e c) d).trans (by decide)) () (Ow c (e.val + 1)) rfl)
    $$ [HO Ht HP]
  · isplitr; · iapply (inv_bar m ρ K); iexact HE
    isplitl [HO]; · iexact HO
    isplitl [Ht]; · iexact Ht
    isplitl [HP]; · rw [payload_bar]; iexact HP
    iapply (at_bar m ρ K); iexact HE
  iintro HO
  iapply Hk
  iexists W; iexact HO

/-- A payment a device does not make. -/
theorem owsX_skip {c : Dev nD} (e : Fin 13) (hc : oC e c = false) : (owsX c e.val : sProp 𝕄) ⊢ owsX c (e.val + 1) := by
  unfold owsX; rw [Ow_peel c e, oterm_off e c hc, add_zero]

/-- A signal made only by some devices. -/
theorem signal_if {c : Dev nD} (e : Fin 13) (d : D) (hd : d.val = e.val) {φ : Prop} [Decidable φ] (hφ : φ ↔ oC e c = true)
    {n : φ → Dev nD} (hn : ∀ h, n h = oT e c) {α : Type} {p : Prog (TpuEff nD τ sig (Elt F) Λ₀ .tc) α} {Q : α → sProp 𝕄} (P : sProp 𝕄) (hP : oC e c = true → P ⊢ barPay (oT e c) d) :
    iprop(Env m ρ K ∗ owsX c e.val ∗ cnd (oC e c) (dutyTok ER (barCell (oT e c)) 0 d) ∗ P)
      ⊢ iprop((owsX c (e.val + 1) -∗ Run c p Q)
        -∗ Run c (if h : φ then .op (.semSignal (Dev.tc (n h) : Thread nD τ) barS (1#32).toInt) (fun _ => p) else p) Q) := by
  by_cases h : φ
  · have hc := hφ.mp h
    rw [dif_pos h, hc, cnd_true]
    iintro ⟨HE, HO, Ht, HP⟩ Hk
    iapply (signal_step m ρ K e d hd hc (hn h)) $$ [HE HO Ht HP]
    · isplitl [HE]; · iexact HE
      isplitl [HO]; · iexact HO
      isplitl [Ht]; · iexact Ht
      iapply (hP hc); iexact HP
    iintro HO
    iapply Hk
    iexact HO
  · have hc : oC e c = false := by rw [hφ] at h; simpa using h
    rw [dif_neg h]
    iintro ⟨-, HO, -, -⟩ Hk
    iapply Hk
    iapply (owsX_skip e hc); iexact HO

/-! ## Waiting for a copy -/

/-- The wait on a completion cell that is used: the payload of its copy, and the counter at rest. -/
theorem wait_dma {c : Dev nD} (k : Fin 22) (j : ℕ) (hk : act k (zz c) = true)
    (hl : ∀ e : Fin 13, j ≤ e.val → oC e c = true → lvD k (zz c) < lvK (oK e) (zz (oT e c)))
    {sp sp' : Space} {s s' : Shape} {ty ty' : EltTy} {sem : DmaSem sig} (hs : sem = dsem k)
    {M : Memref sig .tc sp' s' ty'} {M' : Memref sig .tc sp s ty} {h1 : M.view.WordExact} {h2 : M'.view.WordExact}
    (hN : M'.view.dmaCredit = N)
    {α : Type} {p : PUnit → Prog (TpuEff nD τ sig (Elt F) Λ₀ .tc) α} {Q : α → sProp 𝕄} :
    iprop(Env m ρ K ∗ cred (tallyAt (dcell c k) () N) ∗ owsX c j ∗ atPos ER (dcell c k) 0 ∅ 0)
      ⊢ iprop(((owsX c j ∗ semVal (dcell c k) 0 ∗ dmaPay m ρ c k) -∗ Run c (p ⟨⟩) Q)
        -∗ Run c (.op (.waitDma2 sem M M' h1 h2) p) Q) := by
  subst hs
  unfold owsX
  iintro ⟨#HE, Hc, ⟨%W, HO⟩, Hat⟩ Hk
  iapply (Rounds.wp_wait_rest_token 𝒱₀ ER (Rd m ρ) (c : Thread nD τ) none (κ := nmD K c k)
      (wpE_waitDma2_eq 𝒱₀ (c : Thread nD τ) none Set.univ) (Set.mem_univ _) () (O := Ow c j) (W := W) (R := 0) (m := 0) (T := ∅)
      (by rw [Nat.zero_add, expect_dma m ρ c k hk, hN])) $$ [Hc HO Hat]
  · isplitr; · iapply (inv_dma m ρ K); iexact HE
    isplitl [Hc]; · rw [hN]; iexact Hc
    isplitl [HO]; · iexact HO
    isplitr; · iapply (mayWait c k j hl); iapply (env_lev m ρ K); iexact HE
    iexact Hat
  iintro ⟨HO, Hat, -, Hpay⟩
  ihave Hpay := (Entails.of_eq (rest_dma m ρ c k hk)) $$ Hpay
  imod (Rounds.cell_close ER (Rd m ρ) (Set.mem_univ (nmD K c k)) (fun h => h) (R := 0 + 1) (duties_later m ρ (dcell c k))) $$ [Hat] with Hz
  · isplitr; · iapply (inv_dma m ρ K); iexact HE
    iexact Hat
  iapply Hk
  isplitl [HO]; · iexists _; iexact HO
  isplitl [Hz]; · iexact Hz
  iexact Hpay

/-- A completion cell that is not used is at rest. -/
theorem close_off {c : Dev nD} (k : Fin 22) (hk : act k (zz c) = false) :
    iprop(Env m ρ K ∗ atPos ER (dcell c k) 0 ∅ 0) ⊢ iprop(|={Set.univ}=> semVal (dcell c k) 0) := by
  iintro ⟨#HE, Hat⟩
  iapply (Rounds.cell_close ER (Rd m ρ) (Set.mem_univ (nmD K c k)) (fun h => h) (R := 0) fun r _ => duties_dma_off m ρ c k hk r)
  isplitr; · iapply (inv_dma m ρ K); iexact HE
  iexact Hat

/-! ## Sending -/

/-- A copy to another device: the token of the send cell with the source, the token of the receiver's cell with the
    destination; it leaves the credit of the send cell. -/
theorem send_dma {c : Dev nD} (e : Fin 13) (kS kR : Fin 22) (he : 4 ≤ e.val) (hkR : oK e = ⟨kR.val, by omega⟩) (hc : oC e c = true)
    (haS : act kS (zz c) = true) (haR : act kR (zz (oT e c)) = true)
    {n : Dev nD} (hn : n = oT e c) {sS sR : DmaSem sig} (hsS : sS = dsem kS) (hsR : sR = dsem kR)
    {s : Shape} {ty : EltTy} {M : Memref sig .tc .vmem s ty} {M' : Memref sig (Dev.tc n : Thread nD τ).2.kind .vmem s ty}
    {hsc : M'.view.ref.isScScratch = false} {h1 : M.view.WordExact} {h2 : M'.view.WordExact}
    {h3 : DmaTarget.Typed .vmem (.dma sR) (.remote (Dev.tc n : Thread nD τ) M' (.dma sS) hsc)}
    (hN : M'.view.amount (.dma sR) = N) {q : PosShare TreeShare}
    {fs : Buf (Elt F) (M.view.loc (c : Thread nD τ))} {fd : Buf (Elt F) (M'.view.loc (n : Thread nD τ))}
    (hp1 : (M.view.loc (c : Thread nD τ) ↦[M.view.set]{q} fs) ⊢ dmaPay m ρ c kS)
    (hp2 : (M'.view.loc (n : Thread nD τ) ↦[M'.view.set]{fullShare} (M'.view.write (Elt F) fd (M.view.read (Elt F) fs) Finset.univ)) ⊢ dmaPay m ρ n kR)
    {α : Type} {p : PUnit → Prog (TpuEff nD τ sig (Elt F) Λ₀ .tc) α} {Q : α → sProp 𝕄} :
    iprop(Env m ρ K ∗ (M.view.loc (c : Thread nD τ) ↦[M.view.set]{q} fs)
        ∗ (M'.view.loc (n : Thread nD τ) ↦[M'.view.set]{fullShare} fd)
        ∗ owsX c e.val ∗ dutyTok ER (dcell c kS) 0 0 ∗ dutyTok ER (dcell (oT e c) kR) 0 0)
      ⊢ iprop(((owsX c (e.val + 1) ∗ cred (tallyAt (dcell c kS) () N)) -∗ Run c (p ⟨⟩) Q)
        -∗ Run c (.op (.enqueueDma M (.remote (Dev.tc n : Thread nD τ) M' (.dma sS) hsc) (.dma sR) h1 h2 h3) p) Q) := by
  subst hn hsS hsR
  unfold owsX
  iintro ⟨#HE, Hs, Hd, ⟨%W, HO⟩, Ht1, Ht2⟩ Hk
  iapply (Rounds.wp_send_pointsTo 𝒱₀ ER (Rd m ρ) (c : Thread nD τ) none (κ₁ := nmD K c kS) (κ₂ := nmD K (oT e c) kR)
    (r₁ := 0) (r₂ := 0) (d₁ := 0) (d₂ := 0) (fd := fd)
    (by rw [duties_dma m ρ c kS haS]; exact Finset.mem_singleton_self _) (by rw [duties_dma m ρ (oT e c) kR haR]; exact Finset.mem_singleton_self _)
    () () N hN (amount_dma m ρ c kS 0) (amount_dma m ρ (oT e c) kR 0) (O₀ := Ow c e.val) (Ow c (e.val + 1))
    (by rw [Ow_peel c e, oterm_dma e kR he hkR c hc]) (W := W)
    (by rw [payload_dma]; exact hp1) (by rw [payload_dma]; exact hp2)) $$ [Hs Hd HO Ht1 Ht2]
  · isplitr; · iapply (inv_dma m ρ K); iexact HE
    isplitr; · iapply (inv_dma m ρ K); iexact HE
    isplitl [Hs]; · iexact Hs
    isplitl [Hd]; · iexact Hd
    isplitl [HO]; · iexact HO
    isplitl [Ht1]; · iexact Ht1
    isplitr; · iapply (at_dma m ρ K); iexact HE
    isplitl [Ht2]; · iexact Ht2
    iapply (at_dma m ρ K); iexact HE
  iintro ⟨Hc, HO⟩
  iapply Hk
  isplitl [HO]; · iexists W; iexact HO
  iexact Hc

end Cert.KernelIdealProof

end
-- ==== Proof.KernelIdeal.Lanes.lean ====
/-
# The barrier wait, the partial products, and the steps of a lane

The wait for every neighbour's signal; a partial product computed into its block; and what one block of one lane goes
through on a device: received and added to, or rounded as the lane's first, sent on, the send waited for.
-/
module

public import proofs.«01_k».proof.Proof.KernelIdeal.Steps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-! ## The barrier -/

/-- What the neighbours hand over, all of it. -/
def barAll (c : Dev nD) : sProp 𝕄 :=
  iprop(gAny gX (xn c) fullShare ∗ (gAny gY (yn c) fullShare ∗ gAny gD (yn c) fullShare)
    ∗ (s4 fun b => cnd (snd false b c) (slabAny (RM false) (tgt false c) b))
    ∗ (s4 fun b => cnd (snd true b c) (slabAny (RM true) (tgt true c) b)))

omit [FloatOps F] in
theorem s4_off (A : Bool) (c : Dev nD) (h : ∀ b, snd A b c = false) :
    (iprop(emp) : sProp 𝕄) ⊢ s4 fun b => cnd (snd A b c) (slabAny (F := F) (RM A) (tgt A c) b) := by
  unfold s4
  simp only [h, cnd_false]
  iintro H
  isplitr; · iempintro
  isplitr; · iempintro
  isplitr; · iempintro
  iempintro

omit [FloatOps F] in
theorem barAll_intro (c : Dev nD) : bigSep (barD (zz c)) (fun d => barPay (F := F) c d) ⊢ barAll c := by
  have hz : zz c = 0 ∨ zz c = 3 ∨ (zz c ≠ 0 ∧ zz c ≠ 3) := by omega
  rcases hz with h | h | h
  · have hd : barD (zz c) = ({0, 1, 3} : Finset D) := by rw [h]; rfl
    rw [hd, bigSep_eq_bigSepL_of_eq [(0 : D), 1, 3] (by decide) (by decide)]
    show iprop(barPay c 0 ∗ barPay c 1 ∗ barPay c 3) ⊢ barAll c
    unfold barPay barAll
    iintro ⟨H0, H1, H3⟩
    isplitl [H0]; · iexact H0
    isplitl [H1]; · iexact H1
    isplitr; · iapply (s4_off (F := F) false c (by unfold snd; rw [h]; decide)); iempintro
    iexact H3
  · have hd : barD (zz c) = ({0, 1, 2} : Finset D) := by rw [h]; rfl
    rw [hd, bigSep_eq_bigSepL_of_eq [(0 : D), 1, 2] (by decide) (by decide)]
    show iprop(barPay c 0 ∗ barPay c 1 ∗ barPay c 2) ⊢ barAll c
    unfold barPay barAll
    iintro ⟨H0, H1, H2⟩
    isplitl [H0]; · iexact H0
    isplitl [H1]; · iexact H1
    isplitl [H2]; · iexact H2
    iapply (s4_off (F := F) true c (by unfold snd; rw [h]; decide)); iempintro
  · have hd : barD (zz c) = Finset.univ := by unfold barD; rw [if_neg h.1, if_neg h.2]
    rw [hd, bigSep_eq_bigSepL_of_eq [(0 : D), 1, 2, 3] (by decide) (by decide)]
    show iprop(barPay c 0 ∗ barPay c 1 ∗ barPay c 2 ∗ barPay c 3) ⊢ barAll c
    unfold barPay barAll
    iintro ⟨H0, H1, H2, H3⟩
    isplitl [H0]; · iexact H0
    isplitl [H1]; · iexact H1
    isplitl [H2]; · iexact H2
    iexact H3

omit [FloatOps F] in
theorem sep_sdiff {S T : Finset D} (h : S ⊆ T) (Φ : D → sProp 𝕄) : iprop(bigSep S Φ ∗ bigSep (T \ S) Φ) ⊢ bigSep T Φ := by
  rw [BI.bigSep_sdiff_split h]; exact BI.Entails.refl _

theorem card_end (c : Dev nD) (h : zz c = 0 ∨ zz c = 3) : (barD (zz c)).card = 3 := by
  rcases h with h | h <;> rw [h] <;> rfl
theorem card_mid (c : Dev nD) (h : ¬(zz c = 0 ∨ zz c = 3)) : (barD (zz c)).card = 3 + 1 := by
  unfold barD; rw [if_neg fun h' => h (Or.inl h'), if_neg fun h' => h (Or.inr h')]; rfl

theorem mayWait_bar (c : Dev nD) : (levAts L lv : sProp 𝕄) ⊢ MayOwe (c : Thread nD τ) {(SemLoc.reg barS, ())} (Ow c 4) :=
  mayOwe c _ 1 4 (fun p hp => by rw [Finset.mem_singleton.mp hp]; exact Nat.le_refl 1) (by revert c; decide)

/-- The wait for three signals, and on the devices with four neighbours for one more. -/
theorem barrier_wait {c : Dev nD} {φ : Prop} [Decidable φ] (hφ : φ ↔ ¬(zz c = 0 ∨ zz c = 3))
    {α : Type} {p : Prog (TpuEff nD τ sig (Elt F) Λ₀ .tc) α} {Q : α → sProp 𝕄} :
    iprop(Env m ρ K ∗ cred (tallyAt (barCell c) () (barD (zz c)).card) ∗ owsX c 4 ∗ atPos ER (barCell c) 0 ∅ 0)
      ⊢ iprop(((owsX c 4 ∗ semVal (barCell c) 0 ∗ barAll c) -∗ Run c p Q)
        -∗ Run c (.op (.semWait barS (3#32).toInt) fun _ =>
          if h : φ then .op (.semWait barS (1#32).toInt) (fun _ => p) else p) Q) := by
  have hclose : iprop(Env m ρ K ∗ atPos ER (barCell c) (0 + 1) ∅ 0) ⊢ iprop(|={Set.univ}=> semVal (barCell c) 0) := by
    iintro ⟨#HE, Hat⟩
    iapply (Rounds.cell_close ER (Rd m ρ) (Set.mem_univ (nmB K c)) (fun h => h) (R := 0 + 1) (duties_later m ρ (barCell c)))
    isplitr; · iapply (inv_bar m ρ K); iexact HE
    iexact Hat
  unfold owsX
  by_cases h : φ
  · have hz := hφ.mp h
    rw [dif_pos h, card_mid c hz]
    iintro ⟨#HE, Hc, ⟨%W, HO⟩, Hat⟩ Hk
    rw [← tallyAt_add]
    ihave Hc := (cred_add _ _).1 $$ Hc
    icases Hc with ⟨Hc3, Hc1⟩
    iapply (Rounds.wp_wait 𝒱₀ ER (Rd m ρ) (c : Thread nD τ) none (κ := nmB K c) (k' := 3)
      (wpE_semWait_eq 𝒱₀ (c : Thread nD τ) none Set.univ) (Set.mem_univ _) (cr := Finsupp.single () 3) (O := Ow c 4) (W := W)
      {(SemLoc.reg barS, ())} (R := 0) (m := 0) (T := ∅) (by rw [Util.total_single]) (image_single_subset _ () 3)) $$ [Hc3 HO Hat]
    · isplitr; · iapply (inv_bar m ρ K); iexact HE
      isplitl [Hc3]; · iexact Hc3
      isplitl [HO]; · iexact HO
      isplitr; · iapply (mayWait_bar c); iapply (env_lev m ρ K); iexact HE
      iexact Hat
    iintro %S ⟨%hS, HO, Hat, Hp⟩
    iapply (Rounds.wp_wait_rest_token 𝒱₀ ER (Rd m ρ) (c : Thread nD τ) none (κ := nmB K c)
      (wpE_semWait_eq 𝒱₀ (c : Thread nD τ) none Set.univ) (Set.mem_univ _) () (O := Ow c 4) (R := 0) (m := 0 + 3) (T := S)
      (by rw [expect_bar, card_mid c hz]; rfl)) $$ [Hc1 HO Hat]
    · isplitr; · iapply (inv_bar m ρ K); iexact HE
      isplitl [Hc1]; · iexact Hc1
      isplitl [HO]; · iexact HO
      isplitr; · iapply (mayWait_bar c); iapply (env_lev m ρ K); iexact HE
      iexact Hat
    iintro ⟨HO, Hat, -, Hp'⟩
    imod hclose $$ [Hat] with Hz
    · isplitr; · iexact HE
      iexact Hat
    iapply Hk
    isplitl [HO]; · iexists _; iexact HO
    isplitl [Hz]; · iexact Hz
    iapply (barAll_intro c)
    rw [← duties_bar (F := F) m ρ c]
    rw [Finset.sdiff_empty]
    iapply (sep_sdiff hS.2.1)
    isplitl [Hp]; · iexact Hp
    iexact Hp'
  · have hz : zz c = 0 ∨ zz c = 3 := by rw [hφ] at h; exact not_not.mp h
    rw [dif_neg h, card_end c hz]
    iintro ⟨#HE, Hc, ⟨%W, HO⟩, Hat⟩ Hk
    iapply (Rounds.wp_wait_rest_token 𝒱₀ ER (Rd m ρ) (c : Thread nD τ) none (κ := nmB K c)
      (wpE_semWait_eq 𝒱₀ (c : Thread nD τ) none Set.univ) (Set.mem_univ _) () (O := Ow c 4) (W := W) (R := 0) (m := 0) (T := ∅)
      (by rw [expect_bar, card_end c hz]; rfl)) $$ [Hc HO Hat]
    · isplitr; · iapply (inv_bar m ρ K); iexact HE
      isplitl [Hc]; · iexact Hc
      isplitl [HO]; · iexact HO
      isplitr; · iapply (mayWait_bar c); iapply (env_lev m ρ K); iexact HE
      iexact Hat
    iintro ⟨HO, Hat, -, Hp'⟩
    imod hclose $$ [Hat] with Hz
    · isplitr; · iexact HE
      iexact Hat
    iapply Hk
    isplitl [HO]; · iexists _; iexact HO
    isplitl [Hz]; · iexact Hz
    iapply (barAll_intro c)
    rw [← duties_bar (F := F) m ρ c]
    rw [Finset.sdiff_empty]
    iexact Hp'

/-! ## Partial products -/

/-- The order in which device `c` computes its four partial products. -/
def ord (c : Dev nD) (i : Fin 4) : Fin 4 :=
  if zz c = 0 then (match i with | 0 => 3 | 1 => 2 | 2 => 1 | 3 => 0)
  else if zz c = 1 then (match i with | 0 => 3 | 1 => 0 | 2 => 2 | 3 => 1)
  else if zz c = 2 then (match i with | 0 => 3 | 1 => 0 | 2 => 1 | 3 => 2)
  else i

theorem ord_inj (c : Dev nD) (i j : Fin 4) (h : ord c i = ord c j) : i = j := by revert c i j; decide

/-- What a load of block `b` of `part` returns. -/
abbrev pRd (b : Fin 4) (f : (cc0_scratch1 : Ref sig .tc).ty.Contents (Elt F)) : Vec F S1x256x1024 .f32 :=
  pM.view.readAt (Elt F) (slabRect b).toLoadRect f

omit [FloatOps F] in
theorem pRd_store (b : Fin 4) (f : (cc0_scratch1 : Ref sig .tc).ty.Contents (Elt F)) (w : Vec F S1x256x1024 .f32) :
    pRd b ((pM.access (slabRect b)).write (Elt F) f w Finset.univ) = w :=
  View.read_write_univ (v := pM.view.slice (slabRect b)) f w

omit [FloatOps F] in
theorem pRd_other (b b' : Fin 4) (hb : b ≠ b') (f : (cc0_scratch1 : Ref sig .tc).ty.Contents (Elt F)) (w : Vec F S1x256x1024 .f32) :
    pRd b ((pM.access (slabRect b')).write (Elt F) f w Finset.univ) = pRd b f := by
  have hn : b.val ≠ b'.val := fun hh => hb (Fin.ext hh)
  exact View.read_slice_write_slice_of_disjoint (v := pM.view) (slabRect b) (slabRect b') f w Finset.univ
    (View.disjoint_slice_of_sep pM.view (slabRect b) (slabRect b') 0 rfl rfl (by
      show b.val + 1 ≤ b'.val ∨ b'.val + 1 ≤ b.val
      omega))

/-- Device `c`'s `part` after its first `n` partial products. -/
def partAt (c : Dev nD) (n : ℕ) : sProp 𝕄 :=
  iprop(∃ f : Buf (Elt F) (pM.view.loc (c : Thread nD τ)), ⌜∀ i : Fin 4, i.val < n → pRd (ord c i) f = pv m ρ c (ord c i)⌝
    ∗ pM.view.loc (c : Thread nD τ) ↦[Finset.univ]{fullShare} f)

theorem ref_zero2 : (![0, 0] : Fin 2 → ℕ) = fun _ => 0 := funext fun a => by fin_cases a <;> rfl

/-- A whole buffer held by device `c`, with its contents. -/
abbrev wPts {s : Shape} {ty : EltTy} (M : Memref sig .tc .vmem s ty) (c : Dev nD) (f : Buf (Elt F) (M.view.loc (c : Thread nD τ))) : sProp 𝕄 :=
  M.view.loc (c : Thread nD τ) ↦[Finset.univ]{fullShare} f

/-- The operands of the `i`-th partial product, loaded, -/
theorem compute_load {c : Dev nD} (i : Fin 4) {o2 : Fin 2 → ℕ} (ho2 : o2 = ![0, (ord c i).val * 256])
    {h2 : ∀ a, o2 a + S1024x256.size a ≤ S1024x1024.size a} {h0 : ∀ a, (![0, 0] : Fin 2 → ℕ) a + S1024x1024.size a ≤ S1024x1024.size a}
    {l2 : xM.view.LoadsAt (Rect.unit (s := S1024x1024) o2 S1024x256.size h2).toLoadRect}
    {l0 : bM.view.LoadsAt (Rect.unit (s := S1024x1024) ![0, 0] S1024x1024.size h0).toLoadRect}
    {α : Type} {p : Vec F S1024x256 .bf16 → Vec F S1024x1024 .bf16 → Prog (TpuEff nD τ sig (Elt F) Λ₀ .tc) α} {Q : α → sProp 𝕄} :
    iprop(wPts xM c (xstg m ρ c) ∗ wPts bM c (dquar m ρ c))
      ⊢ iprop(((wPts xM c (xstg m ρ c) ∗ wPts bM c (dquar m ρ c)) -∗ Run c (p (xcol m ρ c (ord c i)) (dquar m ρ c)) Q)
        -∗ Run c (.op (.load xM (Rect.unit (s := S1024x1024) o2 S1024x256.size h2).toLoadRect l2) fun v =>
          .op (.load bM (Rect.unit (s := S1024x1024) ![0, 0] S1024x1024.size h0).toLoadRect l0) fun w => p v w) Q) := by
  subst ho2
  iintro ⟨Hx, Hb⟩ Hk
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  have hb : bM.view.readAt (Elt F) (Rect.unit (s := S1024x1024) ![0, 0] S1024x1024.size h0).toLoadRect (dquar m ρ c) = dquar m ρ c :=
    Memref.readAt_unit_zero (Elt F) cc0_scratch0 ref_zero2 _ _
  iapply (Entails.of_eq (congrArg (fun w => Run c (p (xcol m ρ c (ord c i)) w) Q) hb.symm))
  iapply Hk
  isplitl [Hx] <;> iassumption

/-- and the product stored. -/
theorem compute_store {c : Dev nD} (i : Fin 4) {o3 : Fin 3 → ℕ} (ho3 : o3 = slabOff (ord c i)) (w : Vec F S1x256x1024 .f32)
    (hw : w = pv m ρ c (ord c i)) {h3 : ∀ a, o3 a + S1x256x1024.size a ≤ S4x256x1024.size a}
    {l3 : pM.view.LoadsAt (Rect.unit (s := S4x256x1024) o3 S1x256x1024.size h3).toLoadRect}
    {s3 : (pM.access (Rect.unit (s := S4x256x1024) o3 S1x256x1024.size h3)).Stores Finset.univ}
    {s4' : (Finset.univ : Finset (Rect.unit (s := S4x256x1024) o3 S1x256x1024.size h3).shape.Idx) = Finset.univ
      ∨ ∀ a, (Rect.unit (s := S4x256x1024) o3 S1x256x1024.size h3).stride a = 1}
    {α : Type} {p : PUnit → Prog (TpuEff nD τ sig (Elt F) Λ₀ .tc) α} {Q : α → sProp 𝕄} :
    partAt m ρ c i.val ⊢ iprop((partAt m ρ c (i.val + 1) -∗ Run c (p ⟨⟩) Q)
        -∗ Run c (.op (.load pM (Rect.unit (s := S4x256x1024) o3 S1x256x1024.size h3).toLoadRect l3) fun _ =>
          .op (.store pM (Rect.unit (s := S4x256x1024) o3 S1x256x1024.size h3) w Finset.univ s3 s4') p) Q) := by
  subst ho3 hw
  unfold partAt
  iintro ⟨%f, %hf, Hp⟩ Hk
  iapply (wp_load 𝒱₀ (c : Thread nD τ) none Set.univ (m := pM) (Finset.subset_univ _)) $$ Hp; iintro Hp
  iapply (wp_store 𝒱₀ (c : Thread nD τ) none Set.univ (m := pM) (r := slabRect (ord c i)) (Mk := Finset.univ) (Finset.subset_univ _)) $$ Hp; iintro Hp
  iapply Hk
  iexists _
  isplitr
  rotate_left
  · iexact Hp
  ipureintro
  intro j hj
  by_cases hji : j = i
  · subst hji
    rw [pRd_store]
  · rw [pRd_other _ _ fun h => hji (ord_inj c j i h)]
    exact hf j (by have : j.val ≠ i.val := fun h => hji (Fin.ext h); omega)

/-- The `i`-th partial product, computed and stored. -/
theorem compute_step {c : Dev nD} (i : Fin 4) {o2 : Fin 2 → ℕ} (ho2 : o2 = ![0, (ord c i).val * 256]) {o3 : Fin 3 → ℕ} (ho3 : o3 = slabOff (ord c i))
    (pay : Vec F S1024x256 .bf16 → Vec F S1024x1024 .bf16 → Vec F S1x256x1024 .f32) (hpay : ∀ v w, pay v w = k0_pay2 v w)
    {h2 : ∀ a, o2 a + S1024x256.size a ≤ S1024x1024.size a} {h3 : ∀ a, o3 a + S1x256x1024.size a ≤ S4x256x1024.size a}
    {h0 : ∀ a, (![0, 0] : Fin 2 → ℕ) a + S1024x1024.size a ≤ S1024x1024.size a}
    {l2 : xM.view.LoadsAt (Rect.unit (s := S1024x1024) o2 S1024x256.size h2).toLoadRect}
    {l0 : bM.view.LoadsAt (Rect.unit (s := S1024x1024) ![0, 0] S1024x1024.size h0).toLoadRect}
    {l3 : pM.view.LoadsAt (Rect.unit (s := S4x256x1024) o3 S1x256x1024.size h3).toLoadRect}
    {s3 : (pM.access (Rect.unit (s := S4x256x1024) o3 S1x256x1024.size h3)).Stores Finset.univ}
    {s4' : (Finset.univ : Finset (Rect.unit (s := S4x256x1024) o3 S1x256x1024.size h3).shape.Idx) = Finset.univ
      ∨ ∀ a, (Rect.unit (s := S4x256x1024) o3 S1x256x1024.size h3).stride a = 1}
    {α : Type} {p : PUnit → Prog (TpuEff nD τ sig (Elt F) Λ₀ .tc) α} {Q : α → sProp 𝕄} :
    iprop(wPts xM c (xstg m ρ c) ∗ wPts bM c (dquar m ρ c) ∗ partAt m ρ c i.val)
      ⊢ iprop(((wPts xM c (xstg m ρ c) ∗ wPts bM c (dquar m ρ c) ∗ partAt m ρ c (i.val + 1)) -∗ Run c (p ⟨⟩) Q)
        -∗ Run c (.op (.load xM (Rect.unit (s := S1024x1024) o2 S1024x256.size h2).toLoadRect l2) fun v =>
          .op (.load bM (Rect.unit (s := S1024x1024) ![0, 0] S1024x1024.size h0).toLoadRect l0) fun w =>
          .op (.load pM (Rect.unit (s := S4x256x1024) o3 S1x256x1024.size h3).toLoadRect l3) fun _ =>
          .op (.store pM (Rect.unit (s := S4x256x1024) o3 S1x256x1024.size h3) (pay v w) Finset.univ s3 s4') p) Q) := by
  iintro ⟨Hx, Hb, Hp⟩ Hk
  iapply (compute_load m ρ i ho2) $$ [Hx Hb]
  · isplitl [Hx] <;> iassumption
  iintro ⟨Hx, Hb⟩
  iapply (compute_store m ρ i ho3 _ (hpay _ _)) $$ Hp
  iintro Hp
  iapply Hk
  isplitl [Hx]; · iexact Hx
  isplitl [Hb] <;> iassumption

theorem slab_credit' (A : Bool) (b : Fin 4) : (slabM (SM A) b).view.dmaCredit = N := by cases A <;> rfl

/-! ## One block of one lane -/

section Lane

variable (A : Bool) (b : Fin 4) (c : Dev nD)

/-- The block to send: holding the running sum under `p`. -/
def slabSt (p : Bool) : sProp 𝕄 := if p then slabIs (SM A) c b (sv m ρ A c b) else slabAny (SM A) c b
/-- The receive side before the block came, -/
def rcvPre : sProp 𝕄 :=
  iprop(atPos ER (dcell c (kr A b)) 0 ∅ 0 ∗ if rcv A b c then cred (tallyAt (dcell c (kr A b)) () N) else slabAny (F := F) (RM A) c b)
/-- and after. -/
def rcvEnd : sProp 𝕄 := iprop(semVal (dcell c (kr A b)) 0 ∗ slabAny (F := F) (RM A) c b)
def rcvSt (p : Bool) : sProp 𝕄 := if p then rcvEnd A b c else rcvPre (F := F) A b c
/-- What sending the block takes. -/
def sndTk : sProp 𝕄 :=
  cnd (snd A b c) iprop(dutyTok ER (dcell c (ks A b)) 0 0 ∗ dutyTok ER (dcell (tgt A c) (kr A b)) 0 0 ∗ slabAny (F := F) (RM A) (tgt A c) b)
/-- The send side once it is under way. -/
def sndSt : sProp 𝕄 := if snd A b c then cred (tallyAt (dcell c (ks A b)) () N) else slabAny (F := F) (SM A) c b
/-- The send side at the end. -/
def sndEnd : sProp 𝕄 := iprop(semVal (dcell c (ks A b)) 0 ∗ slabAny (F := F) (SM A) c b)

/-- Whether the block is received and passed on. -/
abbrev mid : Bool := snd A b c && !fst A c

theorem mid_rcv (h : mid A b c = true) : rcv A b c = true := by revert A b c; decide

theorem slabSt_any (p : Bool) : slabSt m ρ A b c p ⊢ slabAny (SM A) c b := by
  unfold slabSt
  cases p
  · rw [if_neg Bool.false_ne_true]
  · rw [if_pos rfl]; exact slabIs_any _ c b _

end Lane

abbrev slabAt (M : Memref sig .tc .vmem S4x256x1024 .bf16) (o : Fin 3 → ℕ) (h : ∀ a, o a + S1x256x1024.size a ≤ S4x256x1024.size a) :
    Memref sig .tc .vmem S256x1024 .bf16 :=
  (M.slice (Rect.unit (s := S4x256x1024) o S1x256x1024.size h) (fun _ => rfl)).squeeze S256x1024 squeezes_S1x256x1024_S256x1024

/-- A block received on a lane, its own partial product added, ready to send. -/
theorem recv_if {c : Dev nD} (A : Bool) (b : Fin 4) (j n : ℕ) {φ : Prop} [Decidable φ] (hφ : φ ↔ mid A b c = true)
    (hl : mid A b c = true → ∀ e : Fin 13, j ≤ e.val → oC e c = true → lvD (kr A b) (zz c) < lvK (oK e) (zz (oT e c)))
    (hn : snd A b c = true → ∃ i : Fin 4, i.val < n ∧ ord c i = b)
    {S R : Memref sig .tc .vmem S4x256x1024 .bf16} (hS : S = SM A) (hR : R = RM A)
    {sem : DmaSem sig} (hs : sem = dsem (kr A b)) {o : Fin 3 → ℕ} (ho : o = slabOff b)
    (pay : Vec F S1x256x1024 .bf16 → Vec F S1x256x1024 .f32 → Vec F S1x256x1024 .bf16) (hpay : ∀ v w, pay v w = k0_pay4 v w)
    {ho' : ∀ a, o a + S1x256x1024.size a ≤ S4x256x1024.size a}
    {h1 : (slabAt S o ho').view.WordExact} {h2 : (slabAt R o ho').view.WordExact}
    {l1 : R.view.LoadsAt (Rect.unit (s := S4x256x1024) o S1x256x1024.size ho').toLoadRect}
    {l2 : pM.view.LoadsAt (Rect.unit (s := S4x256x1024) o S1x256x1024.size ho').toLoadRect}
    {l3 : S.view.LoadsAt (Rect.unit (s := S4x256x1024) o S1x256x1024.size ho').toLoadRect}
    {s3 : (S.access (Rect.unit (s := S4x256x1024) o S1x256x1024.size ho')).Stores Finset.univ}
    {s4' : (Finset.univ : Finset (Rect.unit (s := S4x256x1024) o S1x256x1024.size ho').shape.Idx) = Finset.univ
      ∨ ∀ a, (Rect.unit (s := S4x256x1024) o S1x256x1024.size ho').stride a = 1}
    {α : Type} {p : Prog (TpuEff nD τ sig (Elt F) Λ₀ .tc) α} {Q : α → sProp 𝕄} :
    iprop(Env m ρ K ∗ slabSt m ρ A b c false ∗ rcvPre A b c ∗ partAt m ρ c n ∗ owsX c j)
      ⊢ iprop(((slabSt m ρ A b c (mid A b c) ∗ rcvSt A b c (mid A b c) ∗ partAt m ρ c n ∗ owsX c j) -∗ Run c p Q)
        -∗ Run c (if h : φ then
            .op (.waitDma2 sem (slabAt S o ho') (slabAt R o ho') h1 h2) fun _ =>
            .op (.load R (Rect.unit (s := S4x256x1024) o S1x256x1024.size ho').toLoadRect l1) fun v =>
            .op (.load pM (Rect.unit (s := S4x256x1024) o S1x256x1024.size ho').toLoadRect l2) fun w =>
            .op (.load S (Rect.unit (s := S4x256x1024) o S1x256x1024.size ho').toLoadRect l3) fun _ =>
            .op (.store S (Rect.unit (s := S4x256x1024) o S1x256x1024.size ho') (pay v w) Finset.univ s3 s4') fun _ => p
          else p) Q) := by
  subst hS hR ho
  by_cases h : φ
  · have hm := hφ.mp h
    have hr := mid_rcv A b c hm
    have hsn : snd A b c = true := (Bool.and_eq_true_iff.mp hm).1
    have hf : fst A c = false := by simpa using (Bool.and_eq_true_iff.mp hm).2
    rw [dif_pos h, hm]
    unfold slabSt rcvSt rcvPre rcvEnd partAt
    rw [if_neg Bool.false_ne_true, if_pos hr, if_pos rfl, if_pos rfl]
    unfold slabAny
    iintro ⟨#HE, ⟨%fs, Hs⟩, ⟨Hat, Hc⟩, ⟨%f, %hf', Hp⟩, HO⟩ Hk
    iapply (wait_dma m ρ K (kr A b) j (by rw [act_kr]; exact hr) (hl hm) hs (slab_credit A b)) $$ [Hc HO Hat]
    · isplitr; · iexact HE
      isplitl [Hc]; · iexact Hc
      isplitl [HO] <;> iassumption
    iintro ⟨HO, Hz, Hpay⟩
    ihave Hpay := (Entails.of_eq (pay_kr m ρ A b c)) $$ Hpay
    unfold slabIs
    icases Hpay with ⟨%fr, %hfr, Hr⟩
    iapply (wp_load 𝒱₀ (c : Thread nD τ) none Set.univ (m := RM A) (slab_load_sub (RM A) b)) $$ Hr; iintro Hr
    iapply (wp_load 𝒱₀ (c : Thread nD τ) none Set.univ (m := pM) (Finset.subset_univ _)) $$ Hp; iintro Hp
    iapply (wp_load 𝒱₀ (c : Thread nD τ) none Set.univ (m := SM A) (slab_load_sub (SM A) b)) $$ Hs; iintro Hs
    iapply (wp_store 𝒱₀ (c : Thread nD τ) none Set.univ (m := SM A) (r := slabRect b) (Mk := Finset.univ) (slab_store_sub (SM A) b _)) $$ Hs; iintro Hs
    iapply Hk
    isplitl [Hs]
    · iexists _
      isplitr
      rotate_left
      · iexact Hs
      ipureintro
      obtain ⟨i, hi, rfl⟩ := hn hsn
      rw [slabRd_store, hpay, sv_next m ρ A c _ hf]
      exact congrArg₂ k0_pay4 hfr (hf' i hi)
    isplitl [Hz Hr]
    · isplitl [Hz]; · iexact Hz
      iexists fr; iexact Hr
    isplitl [Hp]
    · iexists f; isplitr; · ipureintro; exact hf'
      iexact Hp
    iexact HO
  · have hm : mid A b c = false := by rw [hφ] at h; simpa using h
    rw [dif_neg h, hm]
    unfold rcvSt
    rw [if_neg Bool.false_ne_true]
    iintro ⟨#HE, Hs, Hr, Hp, HO⟩ Hk
    iapply Hk
    isplitl [Hs]; · iexact Hs
    isplitl [Hr]; · iexact Hr
    isplitl [Hp] <;> iassumption

/-- The lane's first device rounds its own partial product. -/
theorem first_if {c : Dev nD} (A : Bool) (b : Fin 4) (n : ℕ) {φ : Prop} [Decidable φ] (hφ : φ ↔ (snd A b c && fst A c) = true)
    (hn : snd A b c = true → ∃ i : Fin 4, i.val < n ∧ ord c i = b)
    {S : Memref sig .tc .vmem S4x256x1024 .bf16} (hS : S = SM A) {o : Fin 3 → ℕ} (ho : o = slabOff b)
    (pay : Vec F S1x256x1024 .f32 → Vec F S1x256x1024 .bf16) (hpay : ∀ v, pay v = k0_pay5 v)
    {ho' : ∀ a, o a + S1x256x1024.size a ≤ S4x256x1024.size a}
    {l2 : pM.view.LoadsAt (Rect.unit (s := S4x256x1024) o S1x256x1024.size ho').toLoadRect}
    {l3 : S.view.LoadsAt (Rect.unit (s := S4x256x1024) o S1x256x1024.size ho').toLoadRect}
    {s3 : (S.access (Rect.unit (s := S4x256x1024) o S1x256x1024.size ho')).Stores Finset.univ}
    {s4' : (Finset.univ : Finset (Rect.unit (s := S4x256x1024) o S1x256x1024.size ho').shape.Idx) = Finset.univ
      ∨ ∀ a, (Rect.unit (s := S4x256x1024) o S1x256x1024.size ho').stride a = 1}
    {α : Type} {p : Prog (TpuEff nD τ sig (Elt F) Λ₀ .tc) α} {Q : α → sProp 𝕄} :
    iprop(slabSt m ρ A b c (mid A b c) ∗ partAt m ρ c n)
      ⊢ iprop(((slabSt m ρ A b c (snd A b c) ∗ partAt m ρ c n) -∗ Run c p Q)
        -∗ Run c (if h : φ then
            .op (.load pM (Rect.unit (s := S4x256x1024) o S1x256x1024.size ho').toLoadRect l2) fun w =>
            .op (.load S (Rect.unit (s := S4x256x1024) o S1x256x1024.size ho').toLoadRect l3) fun _ =>
            .op (.store S (Rect.unit (s := S4x256x1024) o S1x256x1024.size ho') (pay w) Finset.univ s3 s4') fun _ => p
          else p) Q) := by
  subst hS ho
  by_cases h : φ
  · have hm := Bool.and_eq_true_iff.mp (hφ.mp h)
    have hmid : mid A b c = false := by unfold mid; rw [hm.2]; simp
    rw [dif_pos h, hmid, hm.1]
    unfold slabSt partAt
    rw [if_neg Bool.false_ne_true, if_pos rfl]
    unfold slabAny slabIs
    iintro ⟨⟨%fs, Hs⟩, ⟨%f, %hf', Hp⟩⟩ Hk
    iapply (wp_load 𝒱₀ (c : Thread nD τ) none Set.univ (m := pM) (Finset.subset_univ _)) $$ Hp; iintro Hp
    iapply (wp_load 𝒱₀ (c : Thread nD τ) none Set.univ (m := SM A) (slab_load_sub (SM A) b)) $$ Hs; iintro Hs
    iapply (wp_store 𝒱₀ (c : Thread nD τ) none Set.univ (m := SM A) (r := slabRect b) (Mk := Finset.univ) (slab_store_sub (SM A) b _)) $$ Hs; iintro Hs
    iapply Hk
    isplitl [Hs]
    · iexists _
      isplitr
      rotate_left
      · iexact Hs
      ipureintro
      obtain ⟨i, hi, rfl⟩ := hn hm.1
      rw [slabRd_store, hpay, sv_first m ρ A c _ hm.2]
      exact congrArg _ (hf' i hi)
    iexists f; isplitr; · ipureintro; exact hf'
    iexact Hp
  · have hm : (snd A b c && fst A c) = false := by rw [hφ] at h; simpa using h
    have hmid : mid A b c = snd A b c := by
      unfold mid
      revert hm
      cases snd A b c <;> cases fst A c <;> decide
    rw [dif_neg h, hmid]
    iintro H Hk
    iapply Hk
    iexact H

/-- The block sent on. -/
theorem send_if {c : Dev nD} (A : Bool) (b : Fin 4) (e : Fin 13) (he : 4 ≤ e.val) (hK : oK e = ⟨(kr A b).val, by omega⟩)
    (hC : oC e c = snd A b c) (hT : oT e c = tgt A c) {φ : Prop} [Decidable φ] (hφ : φ ↔ snd A b c = true)
    {n : φ → Dev nD} (hn : ∀ h, n h = tgt A c)
    {S R : Memref sig .tc .vmem S4x256x1024 .bf16} (hS : S = SM A) (hR : R = RM A)
    {sS sR : DmaSem sig} (hsS : sS = dsem (ks A b)) (hsR : sR = dsem (kr A b)) {o : Fin 3 → ℕ} (ho : o = slabOff b)
    {ho' : ∀ a, o a + S1x256x1024.size a ≤ S4x256x1024.size a}
    {hsc : ∀ h : φ, (show Memref sig (Dev.tc (n h) : Thread nD τ).2.kind .vmem S256x1024 .bf16 from slabAt R o ho').view.ref.isScScratch = false}
    {h1 : (slabAt S o ho').view.WordExact} {h2 : (slabAt R o ho').view.WordExact}
    {h3 : ∀ h : φ, DmaTarget.Typed .vmem (.dma sR) (.remote (Dev.tc (n h) : Thread nD τ) (slabAt R o ho') (.dma sS) (hsc h))}
    {α : Type} {p : Prog (TpuEff nD τ sig (Elt F) Λ₀ .tc) α} {Q : α → sProp 𝕄} :
    iprop(Env m ρ K ∗ slabSt m ρ A b c (snd A b c) ∗ sndTk A b c ∗ owsX c e.val)
      ⊢ iprop(((sndSt A b c ∗ owsX c (e.val + 1)) -∗ Run c p Q)
        -∗ Run c (if h : φ then
            .op (.enqueueDma (slabAt S o ho') (.remote (Dev.tc (n h) : Thread nD τ) (slabAt R o ho') (.dma sS) (hsc h)) (.dma sR) h1 h2 (h3 h)) fun _ => p
          else p) Q) := by
  subst hS hR ho
  by_cases h : φ
  · have hm := hφ.mp h
    rw [dif_pos h]
    unfold slabSt sndTk sndSt
    rw [hm, if_pos rfl, if_pos rfl, cnd_true]
    unfold slabIs slabAny
    iintro ⟨#HE, ⟨%fs, %hfs, Hs⟩, ⟨Ht1, Ht2, %fd, Hd⟩, HO⟩ Hk
    have hnT : n h = oT e c := (hn h).trans hT.symm
    rw [← hn h]
    iapply (send_dma m ρ K e (ks A b) (kr A b) he hK (hC.trans hm) (by rw [act_ks]; exact hm)
      (by rw [act_kr, hT]; exact rcv_tgt A b c hm) hnT hsS hsR (slab_credit A b) (fd := fd)
      (by rw [pay_ks]; unfold slabAny; iintro H; iexists fs; iexact H)
      (by
        rw [pay_kr, hn h, src_tgt]; unfold slabIs
        iintro H
        iexists _
        isplitr
        rotate_left
        · iexact H
        ipureintro
        rw [slabRd_copy, hfs])) $$ [Hs Ht1 Ht2 Hd HO]
    · isplitr; · iexact HE
      isplitl [Hs]; · iexact Hs
      isplitl [Hd]; · iexact Hd
      isplitl [HO]; · iexact HO
      isplitl [Ht1]; · iexact Ht1
      rw [← hnT]; iexact Ht2
    iintro ⟨HO, Hc⟩
    iapply Hk
    isplitl [Hc] <;> iassumption
  · have hm : snd A b c = false := by rw [hφ] at h; simpa using h
    rw [dif_neg h]
    unfold slabSt sndSt
    rw [hm, if_neg Bool.false_ne_true, if_neg Bool.false_ne_true]
    iintro ⟨-, Hs, -, HO⟩ Hk
    iapply Hk
    isplitl [Hs]; · iexact Hs
    iapply (owsX_skip e (hC.trans hm)); iexact HO

/-- The send waited for. -/
theorem sent_if {c : Dev nD} (A : Bool) (b : Fin 4) {φ : Prop} [Decidable φ] (hφ : φ ↔ snd A b c = true)
    {S R : Memref sig .tc .vmem S4x256x1024 .bf16} (hS : S = SM A)
    {sem : DmaSem sig} (hs : sem = dsem (ks A b)) {o : Fin 3 → ℕ} (ho : o = slabOff b)
    {ho' : ∀ a, o a + S1x256x1024.size a ≤ S4x256x1024.size a}
    {h1 : (slabAt R o ho').view.WordExact} {h2 : (slabAt S o ho').view.WordExact}
    {α : Type} {p : Prog (TpuEff nD τ sig (Elt F) Λ₀ .tc) α} {Q : α → sProp 𝕄} :
    iprop(Env m ρ K ∗ sndSt A b c ∗ atPos ER (dcell c (ks A b)) 0 ∅ 0 ∗ owsX c 13)
      ⊢ iprop(((sndEnd A b c ∗ owsX c 13) -∗ Run c p Q)
        -∗ Run c (if h : φ then .op (.waitDma2 sem (slabAt R o ho') (slabAt S o ho') h1 h2) fun _ => p else p) Q) := by
  subst hS ho
  unfold sndSt sndEnd
  by_cases h : φ
  · have hm := hφ.mp h
    rw [dif_pos h, hm, if_pos rfl]
    iintro ⟨#HE, Hc, Hat, HO⟩ Hk
    iapply (wait_dma m ρ K (ks A b) 13 (by rw [act_ks]; exact hm) (fun e he => absurd e.isLt (by omega)) hs (slab_credit' A b)) $$ [Hc HO Hat]
    · isplitr; · iexact HE
      isplitl [Hc]; · iexact Hc
      isplitl [HO] <;> iassumption
    iintro ⟨HO, Hz, Hpay⟩
    ihave Hpay := (Entails.of_eq (pay_ks m ρ A b c)) $$ Hpay
    iapply Hk
    isplitl [Hz Hpay]
    · isplitl [Hz] <;> iassumption
    iexact HO
  · have hm : snd A b c = false := by rw [hφ] at h; simpa using h
    rw [dif_neg h, hm, if_neg Bool.false_ne_true]
    iintro ⟨#HE, Hs, Hat, HO⟩ Hk
    imod (close_off m ρ K (ks A b) (by rw [act_ks]; exact hm)) $$ [Hat] with Hz
    · isplitr; · iexact HE
      iexact Hat
    iapply Hk
    isplitl [Hz Hs]
    · isplitl [Hz] <;> iassumption
    iexact HO

end Cert.KernelIdealProof

end
-- ==== Proof.KernelIdeal.Accumulate.lean ====
/-
# The accumulator, and the lanes' receive sides at rest

After the lanes, a device adds what they brought for its own block; every receive cell is then at rest and its block
is the device's own again.
-/
module

public import proofs.«01_k».proof.Proof.KernelIdeal.Lanes

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-! ## Semaphores by number -/

theorem sem_ks_t (b : Fin 4) {o : Fin 1 → ℕ} (ho : o = ![b.val]) (hi : ∀ a, o a + S1.size a ≤ S4.size a) :
    ((cc0_scratch11.slice (Rect.unit (s := S4) o S1.size hi)).squeeze S_ squeezes_S1_S_).sem = dsem (ks true b) := by
  subst ho
  match b, hi with
  | ⟨0, _⟩, _ => show ((cc0_scratch11.slice (Rect.unit (s := S4) ![0] S1.size inb_S4_S1_0)).squeeze S_ squeezes_S1_S_).sem = dsem (ks true 0); decide
  | ⟨1, _⟩, _ => show ((cc0_scratch11.slice (Rect.unit (s := S4) ![1] S1.size inb_S4_S1_1)).squeeze S_ squeezes_S1_S_).sem = dsem (ks true 1); decide
  | ⟨2, _⟩, _ => show ((cc0_scratch11.slice (Rect.unit (s := S4) ![2] S1.size inb_S4_S1_2)).squeeze S_ squeezes_S1_S_).sem = dsem (ks true 2); decide
  | ⟨3, _⟩, _ => show ((cc0_scratch11.slice (Rect.unit (s := S4) ![3] S1.size inb_S4_S1_3)).squeeze S_ squeezes_S1_S_).sem = dsem (ks true 3); decide

theorem sem_kr_t (b : Fin 4) {o : Fin 1 → ℕ} (ho : o = ![b.val]) (hi : ∀ a, o a + S1.size a ≤ S4.size a) :
    ((cc0_scratch12.slice (Rect.unit (s := S4) o S1.size hi)).squeeze S_ squeezes_S1_S_).sem = dsem (kr true b) := by
  subst ho
  match b, hi with
  | ⟨0, _⟩, _ => show ((cc0_scratch12.slice (Rect.unit (s := S4) ![0] S1.size inb_S4_S1_0)).squeeze S_ squeezes_S1_S_).sem = dsem (kr true 0); decide
  | ⟨1, _⟩, _ => show ((cc0_scratch12.slice (Rect.unit (s := S4) ![1] S1.size inb_S4_S1_1)).squeeze S_ squeezes_S1_S_).sem = dsem (kr true 1); decide
  | ⟨2, _⟩, _ => show ((cc0_scratch12.slice (Rect.unit (s := S4) ![2] S1.size inb_S4_S1_2)).squeeze S_ squeezes_S1_S_).sem = dsem (kr true 2); decide
  | ⟨3, _⟩, _ => show ((cc0_scratch12.slice (Rect.unit (s := S4) ![3] S1.size inb_S4_S1_3)).squeeze S_ squeezes_S1_S_).sem = dsem (kr true 3); decide

theorem sem_ks_f (b : Fin 4) {o : Fin 1 → ℕ} (ho : o = ![b.val]) (hi : ∀ a, o a + S1.size a ≤ S4.size a) :
    ((cc0_scratch13.slice (Rect.unit (s := S4) o S1.size hi)).squeeze S_ squeezes_S1_S_).sem = dsem (ks false b) := by
  subst ho
  match b, hi with
  | ⟨0, _⟩, _ => show ((cc0_scratch13.slice (Rect.unit (s := S4) ![0] S1.size inb_S4_S1_0)).squeeze S_ squeezes_S1_S_).sem = dsem (ks false 0); decide
  | ⟨1, _⟩, _ => show ((cc0_scratch13.slice (Rect.unit (s := S4) ![1] S1.size inb_S4_S1_1)).squeeze S_ squeezes_S1_S_).sem = dsem (ks false 1); decide
  | ⟨2, _⟩, _ => show ((cc0_scratch13.slice (Rect.unit (s := S4) ![2] S1.size inb_S4_S1_2)).squeeze S_ squeezes_S1_S_).sem = dsem (ks false 2); decide
  | ⟨3, _⟩, _ => show ((cc0_scratch13.slice (Rect.unit (s := S4) ![3] S1.size inb_S4_S1_3)).squeeze S_ squeezes_S1_S_).sem = dsem (ks false 3); decide

theorem sem_kr_f (b : Fin 4) {o : Fin 1 → ℕ} (ho : o = ![b.val]) (hi : ∀ a, o a + S1.size a ≤ S4.size a) :
    ((cc0_scratch14.slice (Rect.unit (s := S4) o S1.size hi)).squeeze S_ squeezes_S1_S_).sem = dsem (kr false b) := by
  subst ho
  match b, hi with
  | ⟨0, _⟩, _ => show ((cc0_scratch14.slice (Rect.unit (s := S4) ![0] S1.size inb_S4_S1_0)).squeeze S_ squeezes_S1_S_).sem = dsem (kr false 0); decide
  | ⟨1, _⟩, _ => show ((cc0_scratch14.slice (Rect.unit (s := S4) ![1] S1.size inb_S4_S1_1)).squeeze S_ squeezes_S1_S_).sem = dsem (kr false 1); decide
  | ⟨2, _⟩, _ => show ((cc0_scratch14.slice (Rect.unit (s := S4) ![2] S1.size inb_S4_S1_2)).squeeze S_ squeezes_S1_S_).sem = dsem (kr false 2); decide
  | ⟨3, _⟩, _ => show ((cc0_scratch14.slice (Rect.unit (s := S4) ![3] S1.size inb_S4_S1_3)).squeeze S_ squeezes_S1_S_).sem = dsem (kr false 3); decide

theorem sem_kas (j : Fin 3) {o : Fin 1 → ℕ} (ho : o = ![j.val]) (hi : ∀ a, o a + S1.size a ≤ S3.size a) :
    ((cc0_scratch15.slice (Rect.unit (s := S3) o S1.size hi)).squeeze S_ squeezes_S1_S_).sem = dsem (kas j) := by
  subst ho
  match j, hi with
  | ⟨0, _⟩, _ => show ((cc0_scratch15.slice (Rect.unit (s := S3) ![0] S1.size inb_S3_S1_0)).squeeze S_ squeezes_S1_S_).sem = dsem (kas 0); decide
  | ⟨1, _⟩, _ => show ((cc0_scratch15.slice (Rect.unit (s := S3) ![1] S1.size inb_S3_S1_1)).squeeze S_ squeezes_S1_S_).sem = dsem (kas 1); decide
  | ⟨2, _⟩, _ => show ((cc0_scratch15.slice (Rect.unit (s := S3) ![2] S1.size inb_S3_S1_2)).squeeze S_ squeezes_S1_S_).sem = dsem (kas 2); decide

theorem sem_kar (j : Fin 3) {o : Fin 1 → ℕ} (ho : o = ![j.val]) (hi : ∀ a, o a + S1.size a ≤ S3.size a) :
    ((cc0_scratch16.slice (Rect.unit (s := S3) o S1.size hi)).squeeze S_ squeezes_S1_S_).sem = dsem (kar j) := by
  subst ho
  match j, hi with
  | ⟨0, _⟩, _ => show ((cc0_scratch16.slice (Rect.unit (s := S3) ![0] S1.size inb_S3_S1_0)).squeeze S_ squeezes_S1_S_).sem = dsem (kar 0); decide
  | ⟨1, _⟩, _ => show ((cc0_scratch16.slice (Rect.unit (s := S3) ![1] S1.size inb_S3_S1_1)).squeeze S_ squeezes_S1_S_).sem = dsem (kar 1); decide
  | ⟨2, _⟩, _ => show ((cc0_scratch16.slice (Rect.unit (s := S3) ![2] S1.size inb_S3_S1_2)).squeeze S_ squeezes_S1_S_).sem = dsem (kar 2); decide

theorem SM_t : (Memref.whole cc0_scratch3 : Memref sig .tc .vmem S4x256x1024 .bf16) = SM true := rfl
theorem RM_t : (Memref.whole cc0_scratch4 : Memref sig .tc .vmem S4x256x1024 .bf16) = RM true := rfl
theorem SM_f : (Memref.whole cc0_scratch5 : Memref sig .tc .vmem S4x256x1024 .bf16) = SM false := rfl
theorem RM_f : (Memref.whole cc0_scratch6 : Memref sig .tc .vmem S4x256x1024 .bf16) = RM false := rfl

/-! ## The accumulator -/

/-- What arrived on a lane for the device's own block, added. -/
theorem acc_if {c : Dev nD} (A : Bool) (a : Vec F S256x1024 .f32) {φ : Prop} [Decidable φ] (hφ : φ ↔ fst A c = false)
    (hl : ∀ e : Fin 13, 10 ≤ e.val → oC e c = true → lvD (kr A (zb c)) (zz c) < lvK (oK e) (zz (oT e c)))
    {S R : Memref sig .tc .vmem S4x256x1024 .bf16} (hR : R = RM A)
    {sem : φ → DmaSem sig} (hs : ∀ h, sem h = dsem (kr A (zb c))) {o o7 : Fin 3 → ℕ} (ho : o = slabOff (zb c)) (ho7 : o7 = slabOff (zb c))
    (pay : Vec F S256x1024 .f32 → Vec F S1x256x1024 .bf16 → Vec F S256x1024 .f32)
    {ho' : φ → ∀ a, o a + S1x256x1024.size a ≤ S4x256x1024.size a} {ho7' : φ → ∀ a, o7 a + S1x256x1024.size a ≤ S4x256x1024.size a}
    {h1 : ∀ h : φ, (slabAt S o (ho' h)).view.WordExact} {h2 : ∀ h : φ, (slabAt R o (ho' h)).view.WordExact}
    {h0 : ∀ a, (![0, 0] : Fin 2 → ℕ) a + S256x1024.size a ≤ S256x1024.size a}
    {l1 l1' : aM.view.LoadsAt (Rect.unit (s := S256x1024) ![0, 0] S256x1024.size h0).toLoadRect}
    {l2 : ∀ h : φ, R.view.LoadsAt (Rect.unit (s := S4x256x1024) o7 S1x256x1024.size (ho7' h)).toLoadRect}
    {s3 : (aM.access (Rect.unit (s := S256x1024) ![0, 0] S256x1024.size h0)).Stores Finset.univ}
    {s4' : (Finset.univ : Finset (Rect.unit (s := S256x1024) ![0, 0] S256x1024.size h0).shape.Idx) = Finset.univ
      ∨ ∀ a, (Rect.unit (s := S256x1024) ![0, 0] S256x1024.size h0).stride a = 1}
    {α : Type} {p : Prog (TpuEff nD τ sig (Elt F) Λ₀ .tc) α} {Q : α → sProp 𝕄} :
    iprop(Env m ρ K ∗ rcvPre A (zb c) c ∗ wPts aM c a ∗ owsX c 10)
      ⊢ iprop(((rcvEnd A (zb c) c ∗ wPts aM c (if fst A c then a else pay a (sv m ρ A (src A c) (zb c))) ∗ owsX c 10) -∗ Run c p Q)
        -∗ Run c (if h : φ then
            .op (.waitDma2 (sem h) (slabAt S o (ho' h)) (slabAt R o (ho' h)) (h1 h) (h2 h)) fun _ =>
            .op (.load aM (Rect.unit (s := S256x1024) ![0, 0] S256x1024.size h0).toLoadRect l1) fun v =>
            .op (.load R (Rect.unit (s := S4x256x1024) o7 S1x256x1024.size (ho7' h)).toLoadRect (l2 h)) fun w =>
            .op (.load aM (Rect.unit (s := S256x1024) ![0, 0] S256x1024.size h0).toLoadRect l1') fun _ =>
            .op (.store aM (Rect.unit (s := S256x1024) ![0, 0] S256x1024.size h0) (pay v w) Finset.univ s3 s4') fun _ => p
          else p) Q) := by
  subst hR ho ho7
  have hrz : rcv A (zb c) c = !fst A c := by clear * -; revert A c; decide
  unfold rcvPre rcvEnd
  by_cases h : φ
  · have hf := hφ.mp h
    have hr : rcv A (zb c) c = true := by rw [hrz, hf]; rfl
    rw [dif_pos h, hr, if_pos rfl, hf, if_neg Bool.false_ne_true]
    iintro ⟨#HE, ⟨Hat, Hc⟩, Ha, HO⟩ Hk
    iapply (wait_dma m ρ K (kr A (zb c)) 10 (by rw [act_kr]; exact hr) hl (hs h) (slab_credit A (zb c))) $$ [Hc HO Hat]
    · isplitr; · iexact HE
      isplitl [Hc]; · iexact Hc
      isplitl [HO] <;> iassumption
    iintro ⟨HO, Hz, Hpay⟩
    ihave Hpay := (Entails.of_eq (pay_kr m ρ A (zb c) c)) $$ Hpay
    unfold slabIs
    icases Hpay with ⟨%fr, %hfr, Hr⟩
    iapply (wp_load 𝒱₀ (c : Thread nD τ) none Set.univ (m := aM) (Finset.subset_univ _)) $$ Ha; iintro Ha
    iapply (wp_load 𝒱₀ (c : Thread nD τ) none Set.univ (m := RM A) (slab_load_sub (RM A) (zb c))) $$ Hr; iintro Hr
    iapply (wp_load 𝒱₀ (c : Thread nD τ) none Set.univ (m := aM) (Finset.subset_univ _)) $$ Ha; iintro Ha
    iapply (wp_store 𝒱₀ (c : Thread nD τ) none Set.univ (m := aM) (r := Rect.unit (s := S256x1024) ![0, 0] S256x1024.size h0) (Mk := Finset.univ) (Finset.subset_univ _)) $$ Ha; iintro Ha
    iapply Hk
    isplitl [Hz Hr]
    · isplitl [Hz]; · iexact Hz
      unfold slabAny; iexists fr; iexact Hr
    isplitr [HO]
    · iapply (Entails.of_eq ?_) $$ Ha
      refine congrArg (wPts aM c) ?_
      refine (Memref.write_access_unit_zero_univ (Elt F) cc0_scratch2 ref_zero2 _ _ _).trans ?_
      exact congrArg₂ pay (Memref.readAt_unit_zero (Elt F) cc0_scratch2 ref_zero2 _ _) hfr
    iexact HO
  · have hf : fst A c = true := by rw [hφ] at h; simpa using h
    have hr : rcv A (zb c) c = false := by rw [hrz, hf]; rfl
    rw [dif_neg h, hr, if_neg Bool.false_ne_true, hf, if_pos rfl]
    iintro ⟨#HE, ⟨Hat, Hr⟩, Ha, HO⟩ Hk
    imod (close_off m ρ K (kr A (zb c)) (by rw [act_kr]; exact hr)) $$ [Hat] with Hz
    · isplitr; · iexact HE
      iexact Hat
    iapply Hk
    isplitl [Hz Hr]
    · isplitl [Hz] <;> iassumption
    isplitl [Ha] <;> iassumption

/-! ## The lanes at rest -/

/-- After the lanes, every receive cell but the one of the device's own block is at rest. -/
theorem lane_rest (A : Bool) (c : Dev nD) :
    iprop(Env m ρ K ∗ s4 fun b => rcvSt A b c (mid A b c))
      ⊢ |={Set.univ}=> iprop(rcvPre A (zb c) c ∗ bigSep (Finset.univ.erase (zb c)) fun b => rcvEnd A b c) := by
  rw [s4_eq, BI.bigSep_erase (Finset.mem_univ (zb c))]
  have h0 : mid A (zb c) c = false := by revert A c; decide
  show iprop(Env m ρ K ∗ rcvSt A (zb c) c (mid A (zb c) c) ∗ bigSep (Finset.univ.erase (zb c)) fun b => rcvSt A b c (mid A b c)) ⊢ _
  rw [h0]
  iintro ⟨#HE, H0, Hr⟩
  have hb : iprop(Env m ρ K ∗ bigSep (Finset.univ.erase (zb c)) fun b => rcvSt A b c (mid A b c))
      ⊢ |={Set.univ}=> bigSep (Finset.univ.erase (zb c)) fun b => rcvEnd (F := F) A b c := by
    refine (bigSep_with_persistent (R := Env m ρ K) fun b hb => ?_).trans (bigSep_fupd _ _)
    have hne : b ≠ zb c := Finset.ne_of_mem_erase hb
    show iprop(Env m ρ K ∗ rcvSt A b c (mid A b c)) ⊢ |={Set.univ}=> rcvEnd A b c
    unfold rcvSt
    cases hm : mid A b c
    · have hr : rcv A b c = false := by clear * - hne hm; revert hne hm; revert A b c; decide
      rw [if_neg Bool.false_ne_true]
      unfold rcvPre rcvEnd
      rw [hr, if_neg Bool.false_ne_true]
      iintro ⟨#HE, Hat, Hr⟩
      imod (close_off m ρ K (kr A b) (by rw [act_kr]; exact hr)) $$ [Hat] with Hz
      · isplitr; · iexact HE
        iexact Hat
      imodintro
      isplitl [Hz] <;> iassumption
    · rw [if_pos rfl]
      iintro ⟨-, H⟩
      imodintro
      iexact H
  imod hb $$ [Hr] with Hr
  · isplitr; · iexact HE
    iexact Hr
  imodintro
  isplitl [H0]
  · iapply (Entails.of_eq (show rcvSt (F := F) A (zb c) c false = rcvPre A (zb c) c from rfl)); iexact H0
  iexact Hr

omit [FloatOps F] in
theorem lane_all (A : Bool) (c : Dev nD) :
    iprop(rcvEnd (F := F) A (zb c) c ∗ bigSep (Finset.univ.erase (zb c)) fun b => rcvEnd A b c) ⊢ s4 fun b => rcvEnd A b c := by
  rw [s4_eq, BI.bigSep_erase (Finset.mem_univ (zb c))]
  exact BI.Entails.refl _

end Cert.KernelIdealProof

end
-- ==== Proof.KernelIdeal.LaneRun.lean ====
/-
# The lanes, in the kernel's order

The kernel's parts that compute the partial products and pass the blocks along the lanes.
-/
module

public import proofs.«01_k».proof.Proof.KernelIdeal.Accumulate

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-- A device's coordinate `z`, as the kernel computes it. -/
abbrev zw (c : Dev nD) : BitVec 32 := Scalar.remsi (Scalar.divsi (Dev.word c) 1#32) 4#32

/-- The inputs of the partial products and the first `n` of them. -/
abbrev prods (c : Dev nD) (n : ℕ) : sProp 𝕄 :=
  iprop(wPts xM c (xstg m ρ c) ∗ wPts bM c (dquar m ρ c) ∗ partAt m ρ c n)
/-- A block of a lane before its steps, -/
abbrev blk0 (A : Bool) (b : Fin 4) (c : Dev nD) : sProp 𝕄 := iprop(slabSt m ρ A b c false ∗ rcvPre A b c ∗ sndTk A b c)
/-- once received and added to, -/
abbrev blk1 (A : Bool) (b : Fin 4) (c : Dev nD) : sProp 𝕄 := iprop(slabSt m ρ A b c (mid A b c) ∗ rcvSt A b c (mid A b c) ∗ sndTk A b c)
/-- and once sent on. -/
abbrev blk2 (A : Bool) (b : Fin 4) (c : Dev nD) : sProp 𝕄 := iprop(sndSt A b c ∗ rcvSt (F := F) A b c (mid A b c))

/-- The second partial product; block 3 goes right, block 0 comes on the left. -/
theorem part3_run {c : Dev nD} (v2 v5 : BitVec 32) (v60 v61 : BitVec 1) (c2 : BitVec 32) {Q : BitVec 32 → sProp 𝕄} :
    iprop(Env m ρ K ∗ prods m ρ c 1 ∗ blk0 m ρ true 3 c ∗ blk0 m ρ false 0 c ∗ owsX c 4)
      ⊢ iprop(((prods m ρ c 2 ∗ blk2 true 3 c ∗ blk1 m ρ false 0 c ∗ owsX c 5) -∗ Q 0#32)
        -∗ Run c (k0_part3 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 c v2 v5 (zw c) v60 v61 c2) Q) := by
  rw [k0_part3_eq_skeleton]
  unfold k0_part3_skel
  simp only [semSignalWord, semWaitWord, Prog.lift, Prog.bind_op, Prog.bind_ret, Prog.pure_eq_ret]
  iintro ⟨#HE, ⟨Hx, Hb, Hp⟩, ⟨Hst3, Hrt3, Htt3⟩, ⟨Hsf0, Hrf0, Htf0⟩, HO⟩ Hk
  iapply (compute_step m ρ 1 (o2 := k0_off2 c 2#32 0#32 0#32 1#32) (by clear * -; revert c; decide) (o3 := k0_off3 c 2#32 0#32 0#32 1#32) (by clear * -; revert c; decide) k0_pay3 (fun _ _ => rfl)) $$ [Hx Hb Hp]
  · isplitl [Hx]; · iexact Hx
    isplitl [Hb]; · iexact Hb
    iexact Hp
  iintro ⟨Hx, Hb, Hp⟩
  iapply (recv_if m ρ K true 3 4 2 (by clear * -; revert c; decide) (by clear * -; revert c; decide) (by clear * -; revert c; decide)
    SM_t RM_t (sem_kr_t 3 rfl _) (o := ![3, 0, 0]) rfl k0_pay4 (fun _ _ => rfl)) $$ [Hst3 Hrt3 Hp HO]
  · isplitr; · iexact HE
    isplitl [Hst3]; · iexact Hst3
    isplitl [Hrt3]; · iexact Hrt3
    isplitl [Hp]; · iexact Hp
    iexact HO
  iintro ⟨Hst3, Hrt3, Hp, HO⟩
  iapply (first_if m ρ true 3 2 (by clear * -; revert c; decide) (by clear * -; revert c; decide) SM_t (o := ![3, 0, 0]) rfl k0_pay5 (fun _ => rfl)) $$ [Hst3 Hp]
  · isplitl [Hst3]; · iexact Hst3
    iexact Hp
  iintro ⟨Hst3, Hp⟩
  iapply (send_if m ρ K true 3 4 (by decide) rfl (by clear * -; revert c; decide) (by clear * -; revert c; decide) (by clear * -; revert c; decide) (by clear * -; revert c; decide)
    SM_t RM_t (sem_ks_t 3 rfl _) (sem_kr_t 3 rfl _) (o := ![3, 0, 0]) rfl) $$ [Hst3 Htt3 HO]
  · isplitr; · iexact HE
    isplitl [Hst3]; · iexact Hst3
    isplitl [Htt3]; · iexact Htt3
    iexact HO
  iintro ⟨Hst3, HO⟩
  iapply (recv_if m ρ K false 0 5 2 (by clear * -; revert c; decide) (by clear * -; revert c; decide) (by clear * -; revert c; decide)
    SM_f RM_f (sem_kr_f 0 rfl _) (o := ![0, 0, 0]) rfl k0_pay6 (fun _ _ => rfl)) $$ [Hsf0 Hrf0 Hp HO]
  · isplitr; · iexact HE
    isplitl [Hsf0]; · iexact Hsf0
    isplitl [Hrf0]; · iexact Hrf0
    isplitl [Hp]; · iexact Hp
    iexact HO
  iintro ⟨Hsf0, Hrf0, Hp, HO⟩
  iapply run_ret
  iapply Hk
  isplitl [Hx Hb Hp]
  · isplitl [Hx]; · iexact Hx
    isplitl [Hb] <;> iassumption
  isplitl [Hst3 Hrt3]
  · isplitl [Hst3] <;> iassumption
  isplitr [HO]
  · isplitl [Hsf0]; · iexact Hsf0
    isplitl [Hrf0] <;> iassumption
  iexact HO

/-- Block 0 goes left; the third partial product; block 2 comes on the right. -/
theorem part4_run {c : Dev nD} (v2 v5 : BitVec 32) {Q : BitVec 32 → sProp 𝕄} :
    iprop(Env m ρ K ∗ prods m ρ c 2 ∗ blk1 m ρ false 0 c ∗ blk0 m ρ true 2 c ∗ owsX c 5)
      ⊢ iprop(((prods m ρ c 3 ∗ blk2 false 0 c ∗ blk1 m ρ true 2 c ∗ owsX c 6)
          -∗ Q (Scalar.extui (Scalar.andi (Scalar.cmpi .slt (zw c) 2#32) (Scalar.cmpi .eq (zw c) 0#32))))
        -∗ Run c (k0_part4 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 c v2 v5 (zw c) 0#32) Q) := by
  rw [k0_part4_eq_skeleton]
  unfold k0_part4_skel
  simp only [semSignalWord, semWaitWord, Prog.lift, Prog.bind_op, Prog.bind_ret, Prog.pure_eq_ret]
  iintro ⟨#HE, ⟨Hx, Hb, Hp⟩, ⟨Hsf0, Hrf0, Htf0⟩, ⟨Hst2, Hrt2, Htt2⟩, HO⟩ Hk
  iapply (first_if m ρ false 0 2 (by clear * -; revert c; decide) (by clear * -; revert c; decide) SM_f (o := ![0, 0, 0]) rfl k0_pay7 (fun _ => rfl)) $$ [Hsf0 Hp]
  · isplitl [Hsf0]; · iexact Hsf0
    iexact Hp
  iintro ⟨Hsf0, Hp⟩
  iapply (send_if m ρ K false 0 5 (by decide) rfl (by clear * -; revert c; decide) (by clear * -; revert c; decide) (by clear * -; revert c; decide) (by clear * -; revert c; decide)
    SM_f RM_f (sem_ks_f 0 rfl _) (sem_kr_f 0 rfl _) (o := ![0, 0, 0]) rfl) $$ [Hsf0 Htf0 HO]
  · isplitr; · iexact HE
    isplitl [Hsf0]; · iexact Hsf0
    isplitl [Htf0]; · iexact Htf0
    iexact HO
  iintro ⟨Hsf0, HO⟩
  iapply (compute_step m ρ 2 (o2 := k0_off2 c 1#32 2#32 1#32 2#32) (by clear * -; revert c; decide) (o3 := k0_off3 c 1#32 2#32 1#32 2#32) (by clear * -; revert c; decide) k0_pay8 (fun _ _ => rfl)) $$ [Hx Hb Hp]
  · isplitl [Hx]; · iexact Hx
    isplitl [Hb]; · iexact Hb
    iexact Hp
  iintro ⟨Hx, Hb, Hp⟩
  iapply (recv_if m ρ K true 2 6 3 (by clear * -; revert c; decide) (by clear * -; revert c; decide) (by clear * -; revert c; decide)
    SM_t RM_t (sem_kr_t 2 rfl _) (o := ![2, 0, 0]) rfl k0_pay9 (fun _ _ => rfl)) $$ [Hst2 Hrt2 Hp HO]
  · isplitr; · iexact HE
    isplitl [Hst2]; · iexact Hst2
    isplitl [Hrt2]; · iexact Hrt2
    isplitl [Hp]; · iexact Hp
    iexact HO
  iintro ⟨Hst2, Hrt2, Hp, HO⟩
  iapply run_ret
  iapply Hk
  isplitl [Hx Hb Hp]
  · isplitl [Hx]; · iexact Hx
    isplitl [Hb]; · iexact Hb
    iexact Hp
  isplitl [Hsf0 Hrf0]
  · isplitl [Hsf0] <;> iassumption
  isplitl [Hst2 Hrt2 Htt2]
  · isplitl [Hst2]; · iexact Hst2
    isplitl [Hrt2] <;> iassumption
  iexact HO

/-- Block 2 goes right; block 1 comes on the left and goes on; the fourth partial product is computed. -/
theorem part5_run {c : Dev nD} (v2 v5 : BitVec 32) {Q : FVec F S256x1024 .f32 → sProp 𝕄} :
    iprop(Env m ρ K ∗ prods m ρ c 3 ∗ blk1 m ρ true 2 c ∗ blk0 m ρ false 1 c ∗ owsX c 6)
      ⊢ iprop(((prods m ρ c 3 ∗ blk2 true 2 c ∗ blk2 false 1 c ∗ owsX c 8) -∗ Q (k0_pay13 (xcol m ρ c (ord c 3)) (dquar m ρ c)))
        -∗ Run c (k0_part5 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 c v2 v5 (zw c) (Scalar.extui (Scalar.andi (Scalar.cmpi .slt (zw c) 2#32) (Scalar.cmpi .eq (zw c) 0#32)))) Q) := by
  rw [k0_part5_eq_skeleton]
  unfold k0_part5_skel
  simp only [semSignalWord, semWaitWord, Prog.lift, Prog.bind_op, Prog.bind_ret, Prog.pure_eq_ret]
  iintro ⟨#HE, ⟨Hx, Hb, Hp⟩, ⟨Hst2, Hrt2, Htt2⟩, ⟨Hsf1, Hrf1, Htf1⟩, HO⟩ Hk
  iapply (first_if m ρ true 2 3 (by clear * -; revert c; decide) (by clear * -; revert c; decide) SM_t (o := ![2, 0, 0]) rfl k0_pay10 (fun _ => rfl)) $$ [Hst2 Hp]
  · isplitl [Hst2]; · iexact Hst2
    iexact Hp
  iintro ⟨Hst2, Hp⟩
  iapply (send_if m ρ K true 2 6 (by decide) rfl (by clear * -; revert c; decide) (by clear * -; revert c; decide) (by clear * -; revert c; decide) (by clear * -; revert c; decide)
    SM_t RM_t (sem_ks_t 2 rfl _) (sem_kr_t 2 rfl _) (o := ![2, 0, 0]) rfl) $$ [Hst2 Htt2 HO]
  · isplitr; · iexact HE
    isplitl [Hst2]; · iexact Hst2
    isplitl [Htt2]; · iexact Htt2
    iexact HO
  iintro ⟨Hst2, HO⟩
  iapply (recv_if m ρ K false 1 7 3 (by clear * -; revert c; decide) (by clear * -; revert c; decide) (by clear * -; revert c; decide)
    SM_f RM_f (sem_kr_f 1 rfl _) (o := ![1, 0, 0]) rfl k0_pay11 (fun _ _ => rfl)) $$ [Hsf1 Hrf1 Hp HO]
  · isplitr; · iexact HE
    isplitl [Hsf1]; · iexact Hsf1
    isplitl [Hrf1]; · iexact Hrf1
    isplitl [Hp]; · iexact Hp
    iexact HO
  iintro ⟨Hsf1, Hrf1, Hp, HO⟩
  iapply (first_if m ρ false 1 3 (by clear * -; revert c; decide) (by clear * -; revert c; decide) SM_f (o := ![1, 0, 0]) rfl k0_pay12 (fun _ => rfl)) $$ [Hsf1 Hp]
  · isplitl [Hsf1]; · iexact Hsf1
    iexact Hp
  iintro ⟨Hsf1, Hp⟩
  iapply (send_if m ρ K false 1 7 (by decide) rfl (by clear * -; revert c; decide) (by clear * -; revert c; decide) (by clear * -; revert c; decide) (by clear * -; revert c; decide)
    SM_f RM_f (sem_ks_f 1 rfl _) (sem_kr_f 1 rfl _) (o := ![1, 0, 0]) rfl) $$ [Hsf1 Htf1 HO]
  · isplitr; · iexact HE
    isplitl [Hsf1]; · iexact Hsf1
    isplitl [Htf1]; · iexact Htf1
    iexact HO
  iintro ⟨Hsf1, HO⟩
  iapply (compute_load m ρ 3 (o2 := k0_off2 c 0#32 1#32 2#32 3#32) (by clear * -; revert c; decide)) $$ [Hx Hb]
  · isplitl [Hx] <;> iassumption
  iintro ⟨Hx, Hb⟩
  iapply run_ret
  iapply Hk
  isplitl [Hx Hb Hp]
  · isplitl [Hx]; · iexact Hx
    isplitl [Hb]; · iexact Hb
    iexact Hp
  isplitl [Hst2 Hrt2]
  · isplitl [Hst2] <;> iassumption
  isplitl [Hsf1 Hrf1]
  · isplitl [Hsf1] <;> iassumption
  iexact HO

/-- The fourth partial product is stored; block 1 goes right and block 2 left. Then the partial product of the device's
    own block is read. -/
theorem part6_run {c : Dev nD} (v2 v5 : BitVec 32) (a : Vec F S256x1024 .f32)
    {Q : (Σ' (v188 : FVec F S256x1024 .f32), Vec F S256x1024 .f32) → sProp 𝕄} :
    iprop(Env m ρ K ∗ prods m ρ c 3 ∗ blk0 m ρ true 1 c ∗ blk0 m ρ false 2 c ∗ wPts aM c a ∗ owsX c 8)
      ⊢ iprop(((prods m ρ c 4 ∗ blk2 true 1 c ∗ blk2 false 2 c ∗ wPts aM c a ∗ owsX c 10)
          -∗ Q ⟨k0_pay19 (pv m ρ c (zb c)), a⟩)
        -∗ Run c (k0_part6 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 c v2 v5 (zw c) (k0_pay13 (xcol m ρ c (ord c 3)) (dquar m ρ c))) Q) := by
  rw [k0_part6_eq_skeleton]
  unfold k0_part6_skel
  simp only [semSignalWord, semWaitWord, Prog.lift, Prog.bind_op, Prog.bind_ret, Prog.pure_eq_ret]
  iintro ⟨#HE, ⟨Hx, Hb, Hp⟩, ⟨Hst1, Hrt1, Htt1⟩, ⟨Hsf2, Hrf2, Htf2⟩, Ha, HO⟩ Hk
  iapply (compute_store m ρ 3 (o3 := k0_off3 c 0#32 1#32 2#32 3#32) (by clear * -; revert c; decide)
    (k0_pay14 (k0_pay13 (xcol m ρ c (ord c 3)) (dquar m ρ c))) rfl) $$ [Hp]
  · iexact Hp
  iintro Hp
  iapply (recv_if m ρ K true 1 8 4 (by clear * -; revert c; decide) (by clear * -; revert c; decide) (by clear * -; revert c; decide)
    SM_t RM_t (sem_kr_t 1 rfl _) (o := ![1, 0, 0]) rfl k0_pay15 (fun _ _ => rfl)) $$ [Hst1 Hrt1 Hp HO]
  · isplitr; · iexact HE
    isplitl [Hst1]; · iexact Hst1
    isplitl [Hrt1]; · iexact Hrt1
    isplitl [Hp]; · iexact Hp
    iexact HO
  iintro ⟨Hst1, Hrt1, Hp, HO⟩
  iapply (first_if m ρ true 1 4 (by clear * -; revert c; decide) (by clear * -; revert c; decide) SM_t (o := ![1, 0, 0]) rfl k0_pay16 (fun _ => rfl)) $$ [Hst1 Hp]
  · isplitl [Hst1]; · iexact Hst1
    iexact Hp
  iintro ⟨Hst1, Hp⟩
  iapply (send_if m ρ K true 1 8 (by decide) rfl (by clear * -; revert c; decide) (by clear * -; revert c; decide) (by clear * -; revert c; decide) (by clear * -; revert c; decide)
    SM_t RM_t (sem_ks_t 1 rfl _) (sem_kr_t 1 rfl _) (o := ![1, 0, 0]) rfl) $$ [Hst1 Htt1 HO]
  · isplitr; · iexact HE
    isplitl [Hst1]; · iexact Hst1
    isplitl [Htt1]; · iexact Htt1
    iexact HO
  iintro ⟨Hst1, HO⟩
  iapply (recv_if m ρ K false 2 9 4 (by clear * -; revert c; decide) (by clear * -; revert c; decide) (by clear * -; revert c; decide)
    SM_f RM_f (sem_kr_f 2 rfl _) (o := ![2, 0, 0]) rfl k0_pay17 (fun _ _ => rfl)) $$ [Hsf2 Hrf2 Hp HO]
  · isplitr; · iexact HE
    isplitl [Hsf2]; · iexact Hsf2
    isplitl [Hrf2]; · iexact Hrf2
    isplitl [Hp]; · iexact Hp
    iexact HO
  iintro ⟨Hsf2, Hrf2, Hp, HO⟩
  iapply (first_if m ρ false 2 4 (by clear * -; revert c; decide) (by clear * -; revert c; decide) SM_f (o := ![2, 0, 0]) rfl k0_pay18 (fun _ => rfl)) $$ [Hsf2 Hp]
  · isplitl [Hsf2]; · iexact Hsf2
    iexact Hp
  iintro ⟨Hsf2, Hp⟩
  iapply (send_if m ρ K false 2 9 (by decide) rfl (by clear * -; revert c; decide) (by clear * -; revert c; decide) (by clear * -; revert c; decide) (by clear * -; revert c; decide)
    SM_f RM_f (sem_ks_f 2 rfl _) (sem_kr_f 2 rfl _) (o := ![2, 0, 0]) rfl) $$ [Hsf2 Htf2 HO]
  · isplitr; · iexact HE
    isplitl [Hsf2]; · iexact Hsf2
    isplitl [Htf2]; · iexact Htf2
    iexact HO
  iintro ⟨Hsf2, HO⟩
  unfold partAt
  icases Hp with ⟨%f, %hf, Hp⟩
  iapply (wp_load 𝒱₀ (c : Thread nD τ) none Set.univ (m := pM) (Finset.subset_univ _)) $$ Hp; iintro Hp
  iapply (wp_load 𝒱₀ (c : Thread nD τ) none Set.univ (m := aM) (Finset.subset_univ _)) $$ Ha; iintro Ha
  have hv : pM.view.readAt (Elt F) (Rect.unit (s := S4x256x1024) (k0_off4 c) S1x256x1024.size (k0_off4_inb c)).toLoadRect f = pv m ρ c (zb c) := by
    obtain ⟨i, hi⟩ : ∃ i : Fin 4, ord c i = zb c := by clear * -; revert c; decide
    have h := hf i i.isLt
    rw [hi] at h
    rw [← h]
    have ho : k0_off4 c = slabOff (zb c) := by clear * -; revert c; decide
    have : ∀ (o : Fin 3 → ℕ) (hi : ∀ a, o a + S1x256x1024.size a ≤ S4x256x1024.size a), o = slabOff (zb c) →
        pM.view.readAt (Elt F) (Rect.unit (s := S4x256x1024) o S1x256x1024.size hi).toLoadRect f = pRd (zb c) f := by
      intro o hi ho; subst ho; rfl
    exact this _ _ ho
  have ha : aM.view.readAt (Elt F) (Rect.unit (s := S256x1024) ![0, 0] S256x1024.size inb_S256x1024_S256x1024_0_0).toLoadRect a = a :=
    Memref.readAt_unit_zero (Elt F) cc0_scratch2 ref_zero2 _ _
  iapply run_ret
  iapply (Entails.of_eq (congrArg₂ (fun v w => Q ⟨k0_pay19 v, w⟩) hv.symm ha.symm))
  iapply Hk
  isplitl [Hx Hb Hp]
  · isplitl [Hx]; · iexact Hx
    isplitl [Hb]; · iexact Hb
    unfold partAt; iexists f; isplitr; · ipureintro; exact hf
    iexact Hp
  isplitl [Hst1 Hrt1]
  · isplitl [Hst1] <;> iassumption
  isplitl [Hsf2 Hrf2]
  · isplitl [Hsf2] <;> iassumption
  isplitl [Ha]; · iexact Ha
  iexact HO

end Cert.KernelIdealProof

end
-- ==== Proof.KernelIdeal.Opening.lean ====
/-
# The opening

The barrier's signals and wait, the quarter of `dy`, the first partial product.
-/
module

public import proofs.«01_k».proof.Proof.KernelIdeal.LaneRun

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-! ## The opening -/

/-- The word of `2 x + y`, as the kernel computes it. -/
abbrev xw (c : Dev nD) : BitVec 32 := Scalar.remsi (Scalar.divsi (Dev.word c) 8#32) 2#32
abbrev yw (c : Dev nD) : BitVec 32 := Scalar.remsi (Scalar.divsi (Dev.word c) 4#32) 2#32
abbrev qw (c : Dev nD) : BitVec 32 := Scalar.addi (Scalar.muli (xw c) 2#32) (yw c)
/-- The barrier semaphore, as the kernel names it. -/
abbrev bsem : Sems sig S_ := SemArray.scalar (sig.barrier 0 rfl)

omit [FloatOps F] in
/-- What a device gives the one above at the barrier: its receive blocks of the left lane; -/
theorem give_up (c : Dev nD) (h : oC 2 c = true) : (s4 fun b => cnd (rcv false b c) (slabAny (F := F) (RM false) c b)) ⊢ barPay (oT 2 c) 2 := by
  have hz : ∀ b, rcv false b c = snd false b (zn c) := by revert h; revert c; decide
  unfold barPay
  show (s4 fun b => cnd (rcv false b c) (slabAny (F := F) (RM false) c b)) ⊢ s4 fun b => cnd (snd false b (zn c)) (slabAny (RM false) (zp (zn c)) b)
  rw [zp_zn]
  exact s4_mono fun b => Entails.of_eq (by rw [hz b])
omit [FloatOps F] in
/-- and the one below: those of the right lane. -/
theorem give_down (c : Dev nD) (h : oC 3 c = true) : (s4 fun b => cnd (rcv true b c) (slabAny (F := F) (RM true) c b)) ⊢ barPay (oT 3 c) 3 := by
  have hz : ∀ b, rcv true b c = snd true b (zp c) := by revert h; revert c; decide
  unfold barPay
  show (s4 fun b => cnd (rcv true b c) (slabAny (F := F) (RM true) c b)) ⊢ s4 fun b => cnd (snd true b (zp c)) (slabAny (RM true) (zn (zp c)) b)
  rw [zn_zp]
  exact s4_mono fun b => Entails.of_eq (by rw [hz b])

/-- The barrier's signals. -/
theorem part1_run {c : Dev nD} {Q : (Σ' (d0 : Dev nD) (v2 : BitVec 32) (v5 : BitVec 32) (v8 : BitVec 32) (v10 : BitVec 32), Sems sig S_) → sProp 𝕄} :
    iprop(Env m ρ K ∗ owsX c 0 ∗ dutyTok ER (barCell (xn c)) 0 0 ∗ dutyTok ER (barCell (yn c)) 0 1
        ∗ cnd (oC 2 c) (dutyTok ER (barCell (zn c)) 0 2) ∗ cnd (oC 3 c) (dutyTok ER (barCell (zp c)) 0 3)
        ∗ gAny gX c fullShare ∗ gAny gY c fullShare ∗ gAny gD c fullShare
        ∗ (s4 fun b => cnd (rcv false b c) (slabAny (RM false) c b)) ∗ (s4 fun b => cnd (rcv true b c) (slabAny (RM true) c b)))
      ⊢ iprop((owsX c 4 -∗ Q ⟨c, xw c, yw c, zw c, qw c, bsem⟩)
        -∗ Run c (k0_part1 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16) Q) := by
  rw [k0_part1_eq_skeleton]
  unfold k0_part1_skel
  simp only [semSignalWord, semWaitWord, Prog.lift, Prog.bind_op, Prog.bind_ret, Prog.pure_eq_ret, wp_deviceId]
  iintro ⟨#HE, HO, Ht0, Ht1, Ht2, Ht3, HX, HY, HD, Hf, Ht⟩ Hk
  iapply (signal_step m ρ K 0 0 rfl rfl (n := ⟨k0_dev1 c, k0_dev1_lt c⟩) (by clear * -; revert c; decide)) $$ [HO Ht0 HX]
  · isplitr; · iexact HE
    isplitl [HO]; · iexact HO
    isplitl [Ht0]; · iexact Ht0
    iapply (Entails.of_eq (show gAny (F := F) gX c fullShare = barPay (oT 0 c) 0 from by show _ = gAny gX (xn (xn c)) fullShare; rw [xn_xn])); iexact HX
  iintro HO
  iapply (signal_step m ρ K 1 1 rfl rfl (n := ⟨k0_dev2 c, k0_dev2_lt c⟩) (by clear * -; revert c; decide)) $$ [HO Ht1 HY HD]
  · isplitr; · iexact HE
    isplitl [HO]; · iexact HO
    isplitl [Ht1]; · iexact Ht1
    iapply (Entails.of_eq (show iprop(gAny (F := F) gY c fullShare ∗ gAny gD c fullShare) = barPay (oT 1 c) 1 from by show _ = iprop(gAny gY (yn (yn c)) fullShare ∗ gAny gD (yn (yn c)) fullShare); rw [yn_yn]))
    isplitl [HY] <;> iassumption
  iintro HO
  iapply (signal_if m ρ K 2 2 rfl (by clear * -; revert c; decide) (by clear * -; revert c; decide) _ (give_up c)) $$ [HO Ht2 Hf]
  · isplitr; · iexact HE
    isplitl [HO]; · iexact HO
    isplitl [Ht2]; · iexact Ht2
    iexact Hf
  iintro HO
  iapply (signal_if m ρ K 3 3 rfl (by clear * -; revert c; decide) (by clear * -; revert c; decide) _ (give_down c)) $$ [HO Ht3 Ht]
  · isplitr; · iexact HE
    isplitl [HO]; · iexact HO
    isplitl [Ht3]; · iexact Ht3
    iexact Ht
  iintro HO
  iapply run_ret
  iapply Hk
  iexact HO

/-- The barrier's wait, the quarter of `dy`, the first partial product. -/
theorem part2_run {c : Dev nD} (v10 : BitVec 32) {Q : (Σ' (v60 : BitVec 1) (v61 : BitVec 1), BitVec 32) → sProp 𝕄} :
    iprop(Env m ρ K ∗ cred (tallyAt (barCell c) () (barD (zz c)).card) ∗ owsX c 4 ∗ atPos ER (barCell c) 0 ∅ 0
        ∗ wPts xM c (xstg m ρ c) ∗ wPts dM c (dstg m ρ c) ∗ (∃ f, wPts bM c f) ∗ partAt m ρ c 0)
      ⊢ iprop(((owsX c 4 ∗ semVal (barCell c) 0 ∗ barAll c ∗ prods m ρ c 1 ∗ wPts dM c (dstg m ρ c))
          -∗ Q ⟨Scalar.cmpi .eq (zw c) 0#32, Scalar.cmpi .eq (zw c) 1#32, 2#32⟩)
        -∗ Run c (k0_part2 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 c (zw c) v10 bsem) Q) := by
  rw [k0_part2_eq_skeleton]
  unfold k0_part2_skel
  simp only [semSignalWord, semWaitWord, Prog.lift, Prog.bind_op, Prog.bind_ret, Prog.pure_eq_ret]
  iintro ⟨#HE, Hc, HO, Hat, Hx, Hd, ⟨%fb, Hb⟩, Hp⟩ Hk
  iapply (barrier_wait m ρ K (by clear * -; revert c; decide)) $$ [Hc HO Hat]
  · isplitr; · iexact HE
    isplitl [Hc]; · iexact Hc
    isplitl [HO]; · iexact HO
    iexact Hat
  iintro ⟨HO, Hz, Hall⟩
  iapply (wp_load 𝒱₀ (c : Thread nD τ) none Set.univ (m := dM) (Finset.subset_univ _)) $$ Hd; iintro Hd
  iapply (wp_load 𝒱₀ (c : Thread nD τ) none Set.univ (m := bM) (Finset.subset_univ _)) $$ Hb; iintro Hb
  iapply (wp_store 𝒱₀ (c : Thread nD τ) none Set.univ (m := bM) (r := Rect.unit (s := S1024x1024) ![0, 0] S1024x1024.size inb_S1024x1024_S1024x1024_0_0) (Mk := Finset.univ) (Finset.subset_univ _)) $$ Hb; iintro Hb
  ihave Hb := (Entails.of_eq (congrArg (wPts bM c) (show _ = dquar m ρ c from
    (Memref.write_access_unit_zero_univ (Elt F) cc0_scratch0 ref_zero2 _ _ _)))) $$ Hb
  iapply (compute_step m ρ 0 (o2 := k0_off2 c 3#32 3#32 3#32 0#32) (by clear * -; revert c; decide) (o3 := k0_off3 c 3#32 3#32 3#32 0#32) (by clear * -; revert c; decide) k0_pay2 (fun _ _ => rfl)) $$ [Hx Hb Hp]
  · isplitl [Hx]; · iexact Hx
    isplitl [Hb]; · iexact Hb
    iexact Hp
  iintro ⟨Hx, Hb, Hp⟩
  iapply run_ret
  iapply Hk
  isplitl [HO]; · iexact HO
  isplitl [Hz]; · iexact Hz
  isplitl [Hall]; · iexact Hall
  isplitr [Hd]
  · isplitl [Hx]; · iexact Hx
    isplitl [Hb]; · iexact Hb
    iexact Hp
  iexact Hd

end Cert.KernelIdealProof

end
-- ==== Proof.KernelIdeal.Exchange.lean ====
/-
# The final exchange and the result

Within a plane of the mesh the four devices hold the four quarters of the result's block; each sends its own to its
two neighbours and one of them passes it to the fourth. Then the result is written, quarter by quarter.
-/
module

public import proofs.«01_k».proof.Proof.KernelIdeal.LaneRun

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-! ## Whole buffers -/

/-- A whole buffer of the exchange read. -/
theorem g_load {c : Dev nD} (M : Memref sig .tc .vmem S256x1024 .bf16) (hM : M.view.set = Finset.univ) (q : PosShare TreeShare) (V : Vec F S256x1024 .bf16)
    {h0 : ∀ a, (![0, 0] : Fin 2 → ℕ) a + S256x1024.size a ≤ S256x1024.size a}
    (hr : ∀ f, M.view.readAt (Elt F) (Rect.unit (s := S256x1024) ![0, 0] S256x1024.size h0).toLoadRect f = M.view.read (Elt F) f)
    {l : M.view.LoadsAt (Rect.unit (s := S256x1024) ![0, 0] S256x1024.size h0).toLoadRect}
    {α : Type} {p : Vec F S256x1024 .bf16 → Prog (TpuEff nD τ sig (Elt F) Λ₀ .tc) α} {Q : α → sProp 𝕄} :
    gIs M c q V ⊢ iprop((gIs M c q V -∗ Run c (p V) Q)
      -∗ Run c (.op (.load M (Rect.unit (s := S256x1024) ![0, 0] S256x1024.size h0).toLoadRect l) p) Q) := by
  unfold gIs
  iintro ⟨%f, %hf, H⟩ Hk
  iapply (wp_load 𝒱₀ (c : Thread nD τ) none Set.univ (m := M) (by rw [hM]; exact Finset.subset_univ _)) $$ H; iintro H
  iapply (Entails.of_eq (congrArg (fun v => Run c (p v) Q) ((hr f).trans hf).symm))
  iapply Hk
  iexists f
  isplitr; · ipureintro; exact hf
  iexact H

omit [FloatOps F] in
theorem gAny_of (M : Memref sig .tc .vmem S256x1024 .bf16) (c : Dev nD) (q : PosShare TreeShare) (f : Buf (Elt F) (M.view.loc (c : Thread nD τ))) :
    (M.view.loc (c : Thread nD τ) ↦[M.view.set]{q} f : sProp 𝕄) ⊢ gAny M c q := by
  unfold gAny; iintro H; iexists f; iexact H
omit [FloatOps F] in
theorem gIs_of (M : Memref sig .tc .vmem S256x1024 .bf16) (c : Dev nD) (q : PosShare TreeShare) (V : Vec F S256x1024 .bf16)
    (f : Buf (Elt F) (M.view.loc (c : Thread nD τ))) (hf : M.view.read (Elt F) f = V) :
    (M.view.loc (c : Thread nD τ) ↦[M.view.set]{q} f : sProp 𝕄) ⊢ gIs M c q V := by
  unfold gIs
  iintro H
  iexists f
  isplitr; · ipureintro; exact hf
  iexact H

/-- A copy of the exchange: a share of the source lent, the whole destination handed to its device. -/
theorem exch_send {c : Dev nD} (e : Fin 13) (kS kR : Fin 22) (G G' : Memref sig .tc .vmem S256x1024 .bf16) (q : PosShare TreeShare)
    (V : Vec F S256x1024 .bf16) (he : 4 ≤ e.val) (hkR : oK e = ⟨kR.val, by omega⟩) (hc : oC e c = true)
    (haS : act kS (zz c) = true) (haR : act kR (zz (oT e c)) = true)
    (hp1 : gAny G c q ⊢ dmaPay m ρ c kS) (hp2 : gIs G' (oT e c) fullShare V ⊢ dmaPay m ρ (oT e c) kR)
    {n : Dev nD} (hn : n = oT e c) {sS sR : DmaSem sig} (hsS : sS = dsem kS) (hsR : sR = dsem kR)
    (hN : ∀ s : DmaSem sig, G'.view.amount (.dma s) = N)
    {hsc : (show Memref sig (Dev.tc n : Thread nD τ).2.kind .vmem S256x1024 .bf16 from G').view.ref.isScScratch = false}
    {h1 : G.view.WordExact} {h2 : G'.view.WordExact}
    {h3 : DmaTarget.Typed .vmem (.dma sR) (.remote (Dev.tc n : Thread nD τ) G' (.dma sS) hsc)}
    {α : Type} {p : PUnit → Prog (TpuEff nD τ sig (Elt F) Λ₀ .tc) α} {Q : α → sProp 𝕄} :
    iprop(Env m ρ K ∗ gIs G c q V ∗ gAny G' (oT e c) fullShare ∗ owsX c e.val ∗ dutyTok ER (dcell c kS) 0 0 ∗ dutyTok ER (dcell (oT e c) kR) 0 0)
      ⊢ iprop(((owsX c (e.val + 1) ∗ cred (tallyAt (dcell c kS) () N)) -∗ Run c (p ⟨⟩) Q)
        -∗ Run c (.op (.enqueueDma G (.remote (Dev.tc n : Thread nD τ) G' (.dma sS) hsc) (.dma sR) h1 h2 h3) p) Q) := by
  subst hn
  iintro ⟨#HE, HG, HG', HO, Ht1, Ht2⟩ Hk
  unfold gIs gAny
  icases HG with ⟨%f, %hf, HG⟩
  icases HG' with ⟨%f', HG'⟩
  iapply (send_dma m ρ K e kS kR he hkR hc haS haR rfl hsS hsR (M := G) (M' := G') (hN sR) (q := q) (fs := f) (fd := f')
    ((gAny_of G c q f).trans hp1)
    ((gIs_of G' (oT e c) fullShare V _ ((View.read_write_univ (v := G'.view) f' _).trans hf)).trans hp2)) $$ [HG HG' HO Ht1 Ht2]
  · isplitr; · iexact HE
    isplitl [HG]; · iexact HG
    isplitl [HG']; · iexact HG'
    isplitl [HO]; · iexact HO
    isplitl [Ht1]; · iexact Ht1
    iexact Ht2
  iintro ⟨HO, Hc⟩
  iapply Hk
  isplitl [HO]; · iexact HO
  iexact Hc

theorem gA_set : gA.view.set = Finset.univ := View.set_whole _
theorem gX_set : gX.view.set = Finset.univ := View.set_whole _
theorem gY_set : gY.view.set = Finset.univ := View.set_whole _
theorem gD_set : gD.view.set = Finset.univ := View.set_whole _

/-- The accumulator's start, what the two lanes brought, the rounded sum sent across `x`. -/
theorem part7_run {c : Dev nD} (v2 v5 : BitVec 32) (a : Vec F S256x1024 .f32)
    {Q : (Σ' (v203 : BitVec 32), BitVec 32) → sProp 𝕄} :
    iprop(Env m ρ K ∗ rcvPre true (zb c) c ∗ rcvPre false (zb c) c ∗ wPts aM c a ∗ gAny gA c fullShare ∗ gAny gX (xn c) fullShare
        ∗ dutyTok ER (dcell c 16) 0 0 ∗ dutyTok ER (dcell (xn c) 19) 0 0 ∗ owsX c 10)
      ⊢ iprop(((rcvEnd true (zb c) c ∗ rcvEnd false (zb c) c ∗ wPts aM c (acc2 m ρ c) ∗ gIs gA c fullShare.right (gv m ρ c)
            ∗ cred (tallyAt (dcell c 16) () N) ∗ owsX c 11) -∗ Q ⟨Scalar.subi 1#32 v2, Scalar.subi 1#32 v5⟩)
        -∗ Run c (k0_part7 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 c v2 v5 (zw c) (k0_pay19 (pv m ρ c (zb c))) a) Q) := by
  rw [k0_part7_eq_skeleton]
  unfold k0_part7_skel
  simp only [semSignalWord, semWaitWord, Prog.lift, Prog.bind_op, Prog.bind_ret, Prog.pure_eq_ret]
  iintro ⟨#HE, Hr, Hl, Ha, HA, HX, Ht1, Ht2, HO⟩ Hk
  iapply (wp_store 𝒱₀ (c : Thread nD τ) none Set.univ (m := aM) (r := Rect.unit (s := S256x1024) ![0, 0] S256x1024.size inb_S256x1024_S256x1024_0_0) (Mk := Finset.univ) (Finset.subset_univ _)) $$ Ha; iintro Ha
  ihave Ha := (Entails.of_eq (congrArg (wPts aM c) (show _ = acc0 m ρ c from
    (Memref.write_access_unit_zero_univ (Elt F) cc0_scratch2 ref_zero2 _ _ _)))) $$ Ha
  iapply (acc_if m ρ K true (acc0 m ρ c) (by clear * -; revert c; decide) (by clear * -; revert c; decide) RM_t (fun h => sem_kr_t (zb c) (o := k0_off5 c) (by clear * -; revert c; decide) _)
    (o := k0_off6 c) (o7 := k0_off7 c) (by clear * -; revert c; decide) (by clear * -; revert c; decide) k0_pay21) $$ [Hr Ha HO]
  · isplitr; · iexact HE
    isplitl [Hr]; · iexact Hr
    isplitl [Ha]; · iexact Ha
    iexact HO
  iintro ⟨Hr, Ha, HO⟩
  iapply (acc_if m ρ K false (acc1 m ρ c) (by clear * -; revert c; decide) (by clear * -; revert c; decide) RM_f (fun h => sem_kr_f (zb c) (o := k0_off8 c) (by clear * -; revert c; decide) _)
    (o := k0_off9 c) (o7 := k0_off10 c) (by clear * -; revert c; decide) (by clear * -; revert c; decide) k0_pay22) $$ [Hl Ha HO]
  · isplitr; · iexact HE
    isplitl [Hl]; · iexact Hl
    isplitl [Ha]; · iexact Ha
    iexact HO
  iintro ⟨Hl, Ha, HO⟩
  unfold gAny
  icases HA with ⟨%f, HA⟩
  rw [gA_set]
  iapply (wp_load 𝒱₀ (c : Thread nD τ) none Set.univ (m := aM) (Finset.subset_univ _)) $$ Ha; iintro Ha
  iapply (wp_load 𝒱₀ (c : Thread nD τ) none Set.univ (m := gA) (Finset.subset_univ _)) $$ HA; iintro HA
  iapply (wp_store 𝒱₀ (c : Thread nD τ) none Set.univ (m := gA) (r := Rect.unit (s := S256x1024) ![0, 0] S256x1024.size inb_S256x1024_S256x1024_0_0) (Mk := Finset.univ) (Finset.subset_univ _)) $$ HA; iintro HA
  ihave HA := (Entails.of_eq (congrArg (wPts gA c) (show _ = gv m ρ c from
    (Memref.write_access_unit_zero_univ (Elt F) cc0_scratch7 ref_zero2 _ _ _).trans
      (congrArg k0_pay23 (Memref.readAt_unit_zero (Elt F) cc0_scratch2 ref_zero2 _ (acc2 m ρ c)))))) $$ HA
  have hA : wPts gA c (gv m ρ c) ⊢ gIs gA c fullShare (gv m ρ c) := by
    unfold gIs
    rw [gA_set]
    iintro H
    iexists (gv m ρ c)
    isplitr; · ipureintro; rfl
    iexact H
  ihave HA := hA $$ HA
  ihave HA := (gIs_halves gA c (gv m ρ c)) $$ HA
  icases HA with ⟨HA1, HA2⟩
  iapply (exch_send m ρ K 10 16 19 gA gX fullShare.left (gv m ρ c) (by decide) rfl rfl rfl rfl (BI.Entails.refl _)
    (Entails.of_eq (show gIs gX (xn c) fullShare (gv m ρ c) = gIs gX (xn c) fullShare (gv m ρ (xn (xn c))) by rw [xn_xn])) (n := ⟨k0_dev11 c, k0_dev11_lt c⟩) (by clear * -; revert c; decide)
    (sem_kas 0 rfl _) (sem_kar 0 rfl _) (fun _ => rfl)) $$ [HA1 HX Ht1 Ht2 HO]
  · isplitr; · iexact HE
    isplitl [HA1]; · iexact HA1
    isplitl [HX]; · unfold gAny; iexact HX
    isplitl [HO]; · iexact HO
    isplitl [Ht1]; · iexact Ht1
    iexact Ht2
  iintro ⟨HO, Hc⟩
  iapply run_ret
  iapply Hk
  isplitl [Hr]; · iexact Hr
  isplitl [Hl]; · iexact Hl
  isplitl [Ha]; · iexact Ha
  isplitl [HA2]; · iexact HA2
  isplitl [Hc]; · iexact Hc
  iexact HO

/-- The rounded sum is sent across `y`; what came across `x` is passed on across `y`; what came across `y` is there. -/
theorem part8_run {c : Dev nD} (v2 v5 v203 v204 : BitVec 32) {Q : (Σ' (v254 : BitVec 32), BitVec 32) → sProp 𝕄} :
    iprop(Env m ρ K ∗ gIs gA c fullShare.right (gv m ρ c) ∗ gAny gY (yn c) fullShare ∗ gAny gD (yn c) fullShare
        ∗ dutyTok ER (dcell c 17) 0 0 ∗ dutyTok ER (dcell (yn c) 20) 0 0 ∗ dutyTok ER (dcell c 18) 0 0 ∗ dutyTok ER (dcell (yn c) 21) 0 0
        ∗ cred (tallyAt (dcell c 19) () N) ∗ atPos ER (dcell c 19) 0 ∅ 0 ∗ cred (tallyAt (dcell c 20) () N) ∗ atPos ER (dcell c 20) 0 ∅ 0
        ∗ owsX c 11)
      ⊢ iprop(((cred (tallyAt (dcell c 17) () N) ∗ cred (tallyAt (dcell c 18) () N) ∗ semVal (dcell c 19) 0 ∗ semVal (dcell c 20) 0
            ∗ gIs gX c fullShare.right (gv m ρ (xn c)) ∗ gIs gY c fullShare (gv m ρ (yn c)) ∗ owsX c 13)
          -∗ Q ⟨Scalar.addi (Scalar.addi 0#32 (Scalar.muli v2 8#32)) (Scalar.muli v204 4#32), 1#32⟩)
        -∗ Run c (k0_part8 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 c v2 v5 (zw c) v203 v204) Q) := by
  rw [k0_part8_eq_skeleton]
  unfold k0_part8_skel
  simp only [semSignalWord, semWaitWord, Prog.lift, Prog.bind_op, Prog.bind_ret, Prog.pure_eq_ret]
  iintro ⟨#HE, HA, HY, HD, Ht1, Ht2, Ht3, Ht4, Hc1, Hat1, Hc2, Hat2, HO⟩ Hk
  iapply (exch_send m ρ K 11 17 20 gA gY fullShare.right (gv m ρ c) (by decide) rfl rfl rfl rfl (BI.Entails.refl _)
    (Entails.of_eq (show gIs gY (yn c) fullShare (gv m ρ c) = gIs gY (yn c) fullShare (gv m ρ (yn (yn c))) by rw [yn_yn])) (n := ⟨k0_dev12 c, k0_dev12_lt c⟩) (by clear * -; revert c; decide)
    (sem_kas 1 rfl _) (sem_kar 1 rfl _) (fun _ => rfl)) $$ [HA HY Ht1 Ht2 HO]
  · isplitr; · iexact HE
    isplitl [HA]; · iexact HA
    isplitl [HY]; · iexact HY
    isplitl [HO]; · iexact HO
    isplitl [Ht1]; · iexact Ht1
    iexact Ht2
  iintro ⟨HO, Hs1⟩
  iapply (wait_dma m ρ K 19 12 rfl (by clear * -; revert c; decide) (sem_kar 0 rfl _) (M' := gX) rfl) $$ [Hc1 HO Hat1]
  · isplitr; · iexact HE
    isplitl [Hc1]; · iexact Hc1
    isplitl [HO]; · iexact HO
    iexact Hat1
  iintro ⟨HO, Hz1, HX⟩
  ihave HX := (Entails.of_eq (show dmaPay m ρ c 19 = gIs gX c fullShare (gv m ρ (xn c)) from rfl)) $$ HX
  ihave HX := (gIs_halves gX c (gv m ρ (xn c))) $$ HX
  icases HX with ⟨HX1, HX2⟩
  iapply (exch_send m ρ K 12 18 21 gX gD fullShare.left (gv m ρ (xn c)) (by decide) rfl rfl rfl rfl (BI.Entails.refl _)
    (Entails.of_eq (show gIs gD (yn c) fullShare (gv m ρ (xn c)) = gIs gD (yn c) fullShare (gv m ρ (xn (yn (yn c)))) by rw [yn_yn])) (n := ⟨k0_dev13 c, k0_dev13_lt c⟩) (by clear * -; revert c; decide)
    (sem_kas 2 rfl _) (sem_kar 2 rfl _) (fun _ => rfl)) $$ [HX1 HD Ht3 Ht4 HO]
  · isplitr; · iexact HE
    isplitl [HX1]; · iexact HX1
    isplitl [HD]; · iexact HD
    isplitl [HO]; · iexact HO
    isplitl [Ht3]; · iexact Ht3
    iexact Ht4
  iintro ⟨HO, Hs2⟩
  iapply (wait_dma m ρ K 20 13 rfl (by clear * -; revert c; decide) (sem_kar 1 rfl _) (M' := gY) rfl) $$ [Hc2 HO Hat2]
  · isplitr; · iexact HE
    isplitl [Hc2]; · iexact Hc2
    isplitl [HO]; · iexact HO
    iexact Hat2
  iintro ⟨HO, Hz2, HY⟩
  ihave HY := (Entails.of_eq (show dmaPay m ρ c 20 = gIs gY c fullShare (gv m ρ (yn c)) from rfl)) $$ HY
  iapply run_ret
  iapply Hk
  isplitl [Hs1]; · iexact Hs1
  isplitl [Hs2]; · iexact Hs2
  isplitl [Hz1]; · iexact Hz1
  isplitl [Hz2]; · iexact Hz2
  isplitl [HX2]; · iexact HX2
  isplitl [HY]; · iexact HY
  iexact HO

end Cert.KernelIdealProof

end
-- ==== Proof.KernelIdeal.Result.lean ====
/-
# The result written, and the sends waited for

The four quarters of the result's block are stored; then every copy the device started is waited for, so that its
buffers are its own again.
-/
module

public import proofs.«01_k».proof.Proof.KernelIdeal.Exchange

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-! ## The four quarters -/

/-- Which quarter of the columns a device computes: `2 x + y`. -/
def qn (c : Dev nD) : Fin 4 := ⟨c.val / 4, by have h : c.val < 16 := c.isLt; omega⟩
/-- The device of the same `z` that computes quarter `j`. -/
def qdev (c : Dev nD) (j : Fin 4) : Dev nD := ⟨j.val * 4 + c.val % 4, by have h : c.val < 16 := c.isLt; show _ < 16; omega⟩

theorem qdev_self (c : Dev nD) : qdev c (qn c) = c := by revert c; decide
theorem qdev_x (c : Dev nD) : qdev c (qn (xn c)) = xn c := by revert c; decide
theorem qdev_y (c : Dev nD) : qdev c (qn (yn c)) = yn c := by revert c; decide
theorem qdev_d (c : Dev nD) : qdev c (qn (xn (yn c))) = xn (yn c) := by revert c; decide
theorem qn_cover (c : Dev nD) (j : Fin 4) : j = qn c ∨ j = qn (xn c) ∨ j = qn (yn c) ∨ j = qn (xn (yn c)) := by revert c j; decide
theorem qn_x (c : Dev nD) : qn (xn c) ≠ qn c := by revert c; decide
theorem qn_y (c : Dev nD) : qn (yn c) ≠ qn c := by revert c; decide
theorem qn_d (c : Dev nD) : qn (xn (yn c)) ≠ qn c := by revert c; decide
theorem qn_xy (c : Dev nD) : qn (xn c) ≠ qn (yn c) := by revert c; decide
theorem qn_xd (c : Dev nD) : qn (xn c) ≠ qn (xn (yn c)) := by revert c; decide
theorem qn_yd (c : Dev nD) : qn (yn c) ≠ qn (xn (yn c)) := by revert c; decide

/-- Quarter `j` of device `c`'s result: its own sum if the quarter is its own, otherwise the rounded sum of the device
    that computes it. -/
def oq (c : Dev nD) (j : Fin 4) : Vec F S256x1024 .f32 := if j = qn c then acc2 m ρ c else k0_pay24 (gv m ρ (qdev c j))

theorem quart_inb (j : Fin 4) : ∀ a, (![0, j.val * 1024] : Fin 2 → ℕ) a + S256x1024.size a ≤ S256x4096.size a := by revert j; decide
/-- Quarter `j` of the columns. -/
abbrev quartRect (j : Fin 4) : Rect S256x4096 := Rect.unit (s := S256x4096) ![0, j.val * 1024] S256x1024.size (quart_inb j)
/-- What a load of quarter `j` of the result returns. -/
abbrev oRd (j : Fin 4) (f : (cc0_stg2_0 : Ref sig .tc).ty.Contents (Elt F)) : Vec F S256x1024 .f32 :=
  oM.view.readAt (Elt F) (quartRect j).toLoadRect f

omit [FloatOps F] in
theorem oRd_store (j : Fin 4) (f : (cc0_stg2_0 : Ref sig .tc).ty.Contents (Elt F)) (w : Vec F S256x1024 .f32) :
    oRd j ((oM.access (quartRect j)).write (Elt F) f w Finset.univ) = w :=
  View.read_write_univ (v := oM.view.slice (quartRect j)) f w

omit [FloatOps F] in
theorem oRd_other (j j' : Fin 4) (hj : j ≠ j') (f : (cc0_stg2_0 : Ref sig .tc).ty.Contents (Elt F)) (w : Vec F S256x1024 .f32) :
    oRd j ((oM.access (quartRect j')).write (Elt F) f w Finset.univ) = oRd j f := by
  have hn : j.val ≠ j'.val := fun hh => hj (Fin.ext hh)
  exact View.read_slice_write_slice_of_disjoint (v := oM.view) (quartRect j) (quartRect j') f w Finset.univ
    (View.disjoint_slice_of_sep oM.view (quartRect j) (quartRect j') 1 rfl rfl (by
      show j.val * 1024 + 1024 ≤ j'.val * 1024 ∨ j'.val * 1024 + 1024 ≤ j.val * 1024
      omega))

/-- The place inside its quarter of an index of the result. -/
def qIdx (i : S256x4096.Idx) : S256x1024.Idx :=
  fun a => ⟨![(i 0).val, (i 1).val % 1024] a, by
    have h0 : (i 0).val < 256 := (i 0).isLt
    match a with
    | ⟨0, _⟩ => exact h0
    | ⟨1, _⟩ => exact Nat.mod_lt _ (by decide)⟩
/-- The quarter of an index of the result. -/
def qOf (i : S256x4096.Idx) : Fin 4 := ⟨(i 1).val / 1024, by have h : (i 1).val < 4096 := (i 1).isLt; omega⟩

/-- A device's result: its four quarters. -/
def outAt (c : Dev nD) : Vec F S256x4096 .f32 := fun i => oq m ρ c (qOf i) (qIdx i)

omit [FloatOps F] in
theorem oRd_apply (f : (cc0_stg2_0 : Ref sig .tc).ty.Contents (Elt F)) (i : S256x4096.Idx) : oRd (qOf i) f (qIdx i) = f i := by
  show f _ = f i
  refine congrArg f (funext fun a => Fin.ext ?_)
  have h1 : (i 1).val < 4096 := (i 1).isLt
  match a with
  | ⟨0, _⟩ => show 0 + 1 * (i 0).val = (i 0).val; omega
  | ⟨1, _⟩ => show (i 1).val / 1024 * 1024 + 1 * ((i 1).val % 1024) = (i 1).val; omega

/-- Contents whose four quarters are right are the result. -/
theorem out_ext (c : Dev nD) (f : (cc0_stg2_0 : Ref sig .tc).ty.Contents (Elt F)) (h : ∀ j, oRd j f = oq m ρ c j) : f = outAt m ρ c :=
  funext fun i => ((oRd_apply f i).symm.trans (congrFun (h (qOf i)) (qIdx i)))

/-- Quarters stored so far. -/
def outSt (c : Dev nD) (P : Fin 4 → Prop) : sProp 𝕄 :=
  iprop(∃ f : Buf (Elt F) (oM.view.loc (c : Thread nD τ)), ⌜∀ j, P j → oRd j f = oq m ρ c j⌝ ∗ wPts oM c f)

/-- One quarter stored. -/
theorem out_step {c : Dev nD} (j : Fin 4) (P : Fin 4 → Prop) {o : Fin 2 → ℕ} (ho : o = ![0, j.val * 1024]) (w : Vec F S256x1024 .f32) (hw : w = oq m ρ c j)
    {h : ∀ a, o a + S256x1024.size a ≤ S256x4096.size a}
    {s3 : (oM.access (Rect.unit (s := S256x4096) o S256x1024.size h)).Stores Finset.univ}
    {s4' : (Finset.univ : Finset (Rect.unit (s := S256x4096) o S256x1024.size h).shape.Idx) = Finset.univ
      ∨ ∀ a, (Rect.unit (s := S256x4096) o S256x1024.size h).stride a = 1}
    {α : Type} {p : PUnit → Prog (TpuEff nD τ sig (Elt F) Λ₀ .tc) α} {Q : α → sProp 𝕄} :
    outSt m ρ c P ⊢ iprop((outSt m ρ c (fun i => i = j ∨ P i) -∗ Run c (p ⟨⟩) Q)
      -∗ Run c (.op (.store oM (Rect.unit (s := S256x4096) o S256x1024.size h) w Finset.univ s3 s4') p) Q) := by
  subst ho hw
  unfold outSt
  iintro ⟨%f, %hf, H⟩ Hk
  iapply (wp_store 𝒱₀ (c : Thread nD τ) none Set.univ (m := oM) (r := quartRect j) (Mk := Finset.univ) (Finset.subset_univ _)) $$ H; iintro H
  iapply Hk
  iexists _
  isplitr
  rotate_left
  · iexact H
  ipureintro
  intro i hi
  by_cases hij : i = j
  · subst hij; rw [oRd_store]
  · rw [oRd_other _ _ hij]; exact hf i (hi.resolve_left hij)

/-- A load of the result, whatever it returns. -/
theorem out_load {c : Dev nD} (P : Fin 4 → Prop) {r : LoadRect S256x4096} {l : oM.view.LoadsAt r}
    {α : Type} {p : Prog (TpuEff nD τ sig (Elt F) Λ₀ .tc) α} {Q : α → sProp 𝕄} :
    outSt m ρ c P ⊢ iprop((outSt m ρ c P -∗ Run c p Q) -∗ Run c (.op (.load oM r l) fun _ => p) Q) := by
  unfold outSt
  iintro ⟨%f, %hf, H⟩ Hk
  iapply (wp_load 𝒱₀ (c : Thread nD τ) none Set.univ (m := oM) (Finset.subset_univ _)) $$ H; iintro H
  iapply Hk
  iexists f
  isplitr; · ipureintro; exact hf
  iexact H

theorem oq_self (c : Dev nD) : acc2 m ρ c = oq m ρ c (qn c) := by unfold oq; rw [if_pos rfl]
theorem oq_x (c : Dev nD) : k0_pay24 (gv m ρ (xn c)) = oq m ρ c (qn (xn c)) := by unfold oq; rw [if_neg (qn_x c), qdev_x]
theorem oq_y (c : Dev nD) : k0_pay25 (gv m ρ (yn c)) = oq m ρ c (qn (yn c)) := by unfold oq; rw [if_neg (qn_y c), qdev_y]; rfl
theorem oq_d (c : Dev nD) : k0_pay26 (gv m ρ (xn (yn c))) = oq m ρ c (qn (xn (yn c))) := by unfold oq; rw [if_neg (qn_d c), qdev_d]; rfl

/-- The last quarter arrives; the first three are stored. -/
theorem part9_run {c : Dev nD} (v2 v5 v10 v254 v1 : BitVec 32) {Q : FVec F S256x1024 .f32 → sProp 𝕄} :
    iprop(Env m ρ K ∗ cred (tallyAt (dcell c 21) () N) ∗ atPos ER (dcell c 21) 0 ∅ 0 ∗ wPts aM c (acc2 m ρ c)
        ∗ gIs gX c fullShare.right (gv m ρ (xn c)) ∗ gIs gY c fullShare (gv m ρ (yn c)) ∗ outSt m ρ c (fun _ => False) ∗ owsX c 13)
      ⊢ iprop(((semVal (dcell c 21) 0 ∗ wPts aM c (acc2 m ρ c) ∗ gAny gX c fullShare.right ∗ gAny gY c fullShare ∗ gAny gD c fullShare
            ∗ outSt m ρ c (fun j => j = qn (yn c) ∨ j = qn (xn c) ∨ j = qn c ∨ False) ∗ owsX c 13)
          -∗ Q (k0_pay26 (gv m ρ (xn (yn c)))))
        -∗ Run c (k0_part9 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 c v2 v5 (zw c) v10 v254 v1) Q) := by
  rw [k0_part9_eq_skeleton]
  unfold k0_part9_skel
  simp only [semSignalWord, semWaitWord, Prog.lift, Prog.bind_op, Prog.bind_ret, Prog.pure_eq_ret]
  iintro ⟨#HE, Hc, Hat, Ha, HX, HY, Ho, HO⟩ Hk
  iapply (wait_dma m ρ K 21 13 rfl (by clear * -; revert c; decide) (sem_kar 2 rfl _) (M' := gD) rfl) $$ [Hc HO Hat]
  · isplitr; · iexact HE
    isplitl [Hc]; · iexact Hc
    isplitl [HO]; · iexact HO
    iexact Hat
  iintro ⟨HO, Hz, HD⟩
  ihave HD := (Entails.of_eq (show dmaPay m ρ c 21 = gIs gD c fullShare (gv m ρ (xn (yn c))) from rfl)) $$ HD
  iapply (wp_load 𝒱₀ (c : Thread nD τ) none Set.univ (m := aM) (Finset.subset_univ _)) $$ Ha; iintro Ha
  iapply (out_load m ρ _) $$ Ho; iintro Ho
  iapply (out_step m ρ (qn c) _ (o := k0_off11 c) (by clear * -; revert c; decide) _
    ((Memref.readAt_unit_zero (Elt F) cc0_scratch2 ref_zero2 _ (acc2 m ρ c)).trans (oq_self m ρ c))) $$ Ho; iintro Ho
  iapply (g_load gX gX_set fullShare.right (gv m ρ (xn c)) (fun f => Memref.readAt_unit_zero (Elt F) cc0_scratch8 ref_zero2 _ f)) $$ HX; iintro HX
  iapply (out_load m ρ _) $$ Ho; iintro Ho
  iapply (out_step m ρ (qn (xn c)) _ (o := k0_off12 c) (by clear * -; revert c; decide) _ (oq_x m ρ c)) $$ Ho; iintro Ho
  iapply (g_load gY gY_set fullShare (gv m ρ (yn c)) (fun f => Memref.readAt_unit_zero (Elt F) cc0_scratch9 ref_zero2 _ f)) $$ HY; iintro HY
  iapply (out_load m ρ _) $$ Ho; iintro Ho
  iapply (out_step m ρ (qn (yn c)) _ (o := k0_off13 c) (by clear * -; revert c; decide) _ (oq_y m ρ c)) $$ Ho; iintro Ho
  iapply (g_load gD gD_set fullShare (gv m ρ (xn (yn c))) (fun f => Memref.readAt_unit_zero (Elt F) cc0_scratch10 ref_zero2 _ f)) $$ HD; iintro HD
  iapply (out_load m ρ _) $$ Ho; iintro Ho
  iapply run_ret
  iapply Hk
  isplitl [Hz]; · iexact Hz
  isplitl [Ha]; · iexact Ha
  isplitl [HX]; · iapply (gIs_any gX c fullShare.right (gv m ρ (xn c))); iexact HX
  isplitl [HY]; · iapply (gIs_any gY c fullShare (gv m ρ (yn c))); iexact HY
  isplitl [HD]; · iapply (gIs_any gD c fullShare (gv m ρ (xn (yn c)))); iexact HD
  isplitl [Ho]; · iexact Ho
  iexact HO

/-- A send cell before its send is waited for. -/
abbrev sndRd (A : Bool) (b : Fin 4) (c : Dev nD) : sProp 𝕄 := iprop(sndSt (F := F) A b c ∗ atPos ER (dcell c (ks A b)) 0 ∅ 0)
/-- A cell of the exchange before it is waited for. -/
abbrev excRd (k : Fin 22) (c : Dev nD) : sProp 𝕄 := iprop(cred (tallyAt (dcell c k) () N) ∗ atPos ER (dcell c k) 0 ∅ 0)

/-- The last quarter is stored, and the lanes' sends and the exchange's first are waited for. -/
theorem part10_run {c : Dev nD} {Q : PUnit → sProp 𝕄} :
    iprop(Env m ρ K ∗ outSt m ρ c (fun j => j = qn (yn c) ∨ j = qn (xn c) ∨ j = qn c ∨ False)
        ∗ sndRd true 0 c ∗ sndRd false 0 c ∗ sndRd true 1 c ∗ sndRd false 1 c ∗ sndRd true 2 c ∗ sndRd false 2 c ∗ sndRd true 3 c ∗ sndRd false 3 c ∗ excRd 16 c ∗ owsX c 13)
      ⊢ iprop(((wPts oM c (outAt m ρ c)
            ∗ sndEnd true 0 c ∗ sndEnd false 0 c ∗ sndEnd true 1 c ∗ sndEnd false 1 c ∗ sndEnd true 2 c ∗ sndEnd false 2 c ∗ sndEnd true 3 c ∗ sndEnd false 3 c ∗ semVal (dcell c 16) 0 ∗ gAny gA c fullShare.left ∗ owsX c 13) -∗ Q ⟨⟩)
        -∗ Run c (k0_part10 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 c (zw c) (k0_pay26 (gv m ρ (xn (yn c))))) Q) := by
  rw [k0_part10_eq_skeleton]
  unfold k0_part10_skel
  simp only [semSignalWord, semWaitWord, Prog.lift, Prog.bind_op, Prog.bind_ret, Prog.pure_eq_ret]
  iintro ⟨#HE, Ho, Ht0, Hf0, Ht1, Hf1, Ht2, Hf2, Ht3, Hf3, ⟨Hc, Hat⟩, HO⟩ Hk
  iapply (out_step m ρ (qn (xn (yn c))) _ (o := k0_off14 c) (by clear * -; revert c; decide) _ (oq_d m ρ c)) $$ Ho; iintro Ho
  iapply (sent_if m ρ K true 0 (by clear * -; revert c; decide) SM_t (sem_ks_t 0 rfl _) (o := ![0, 0, 0]) rfl) $$ [Ht0 HO]
  · icases Ht0 with ⟨H1, H2⟩
    isplitr; · iexact HE
    isplitl [H1]; · iexact H1
    isplitl [H2]; · iexact H2
    iexact HO
  iintro ⟨Ht0, HO⟩
  iapply (sent_if m ρ K false 0 (by clear * -; revert c; decide) SM_f (sem_ks_f 0 rfl _) (o := ![0, 0, 0]) rfl) $$ [Hf0 HO]
  · icases Hf0 with ⟨H1, H2⟩
    isplitr; · iexact HE
    isplitl [H1]; · iexact H1
    isplitl [H2]; · iexact H2
    iexact HO
  iintro ⟨Hf0, HO⟩
  iapply (sent_if m ρ K true 1 (by clear * -; revert c; decide) SM_t (sem_ks_t 1 rfl _) (o := ![1, 0, 0]) rfl) $$ [Ht1 HO]
  · icases Ht1 with ⟨H1, H2⟩
    isplitr; · iexact HE
    isplitl [H1]; · iexact H1
    isplitl [H2]; · iexact H2
    iexact HO
  iintro ⟨Ht1, HO⟩
  iapply (sent_if m ρ K false 1 (by clear * -; revert c; decide) SM_f (sem_ks_f 1 rfl _) (o := ![1, 0, 0]) rfl) $$ [Hf1 HO]
  · icases Hf1 with ⟨H1, H2⟩
    isplitr; · iexact HE
    isplitl [H1]; · iexact H1
    isplitl [H2]; · iexact H2
    iexact HO
  iintro ⟨Hf1, HO⟩
  iapply (sent_if m ρ K true 2 (by clear * -; revert c; decide) SM_t (sem_ks_t 2 rfl _) (o := ![2, 0, 0]) rfl) $$ [Ht2 HO]
  · icases Ht2 with ⟨H1, H2⟩
    isplitr; · iexact HE
    isplitl [H1]; · iexact H1
    isplitl [H2]; · iexact H2
    iexact HO
  iintro ⟨Ht2, HO⟩
  iapply (sent_if m ρ K false 2 (by clear * -; revert c; decide) SM_f (sem_ks_f 2 rfl _) (o := ![2, 0, 0]) rfl) $$ [Hf2 HO]
  · icases Hf2 with ⟨H1, H2⟩
    isplitr; · iexact HE
    isplitl [H1]; · iexact H1
    isplitl [H2]; · iexact H2
    iexact HO
  iintro ⟨Hf2, HO⟩
  iapply (sent_if m ρ K true 3 (by clear * -; revert c; decide) SM_t (sem_ks_t 3 rfl _) (o := ![3, 0, 0]) rfl) $$ [Ht3 HO]
  · icases Ht3 with ⟨H1, H2⟩
    isplitr; · iexact HE
    isplitl [H1]; · iexact H1
    isplitl [H2]; · iexact H2
    iexact HO
  iintro ⟨Ht3, HO⟩
  iapply (sent_if m ρ K false 3 (by clear * -; revert c; decide) SM_f (sem_ks_f 3 rfl _) (o := ![3, 0, 0]) rfl) $$ [Hf3 HO]
  · icases Hf3 with ⟨H1, H2⟩
    isplitr; · iexact HE
    isplitl [H1]; · iexact H1
    isplitl [H2]; · iexact H2
    iexact HO
  iintro ⟨Hf3, HO⟩
  iapply (wait_dma m ρ K 16 13 rfl (by clear * -; revert c; decide) (sem_kas 0 rfl _) (M' := gA) rfl) $$ [Hc HO Hat]
  · isplitr; · iexact HE
    isplitl [Hc]; · iexact Hc
    isplitl [HO]; · iexact HO
    iexact Hat
  iintro ⟨HO, Hz, HA⟩
  ihave HA := (Entails.of_eq (show dmaPay m ρ c 16 = gAny gA c fullShare.left from rfl)) $$ HA
  iapply run_ret
  iapply Hk
  isplitl [Ho]
  · unfold outSt
    icases Ho with ⟨%f, %hf, Ho⟩
    iapply (Entails.of_eq (congrArg (wPts oM c) (out_ext m ρ c f fun j => hf j (by
      rcases qn_cover c j with h | h | h | h
      · exact Or.inr (Or.inr (Or.inr (Or.inl h)))
      · exact Or.inr (Or.inr (Or.inl h))
      · exact Or.inr (Or.inl h)
      · exact Or.inl h))))
    iexact Ho
  isplitl [Ht0]; · iexact Ht0
  isplitl [Hf0]; · iexact Hf0
  isplitl [Ht1]; · iexact Ht1
  isplitl [Hf1]; · iexact Hf1
  isplitl [Ht2]; · iexact Ht2
  isplitl [Hf2]; · iexact Hf2
  isplitl [Ht3]; · iexact Ht3
  isplitl [Hf3]; · iexact Hf3
  isplitl [Hz]; · iexact Hz
  isplitl [HA]; · iexact HA
  iexact HO

end Cert.KernelIdealProof

end
-- ==== Proof.KernelIdeal.Body.lean ====
/-
# The kernel body

The whole body of a device, from what the launch hands it to its result.
-/
module

public import proofs.«01_k».proof.Proof.KernelIdeal.Opening
public import proofs.«01_k».proof.Proof.KernelIdeal.Result

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 23 → ℕ)

/-! ## A lane's resources, block by block -/

/-- The tokens that sending block `b` along a lane takes. -/
def lnTk (A : Bool) (c : Dev nD) (b : Fin 4) : sProp 𝕄 :=
  cnd (snd A b c) iprop(dutyTok ER (dcell c (ks A b)) 0 0 ∗ dutyTok ER (dcell (tgt A c) (kr A b)) 0 0)
/-- The credit that receiving it takes, with its cell. -/
def lnCr (A : Bool) (c : Dev nD) (b : Fin 4) : sProp 𝕄 :=
  iprop(atPos ER (dcell c (kr A b)) 0 ∅ 0 ∗ cnd (rcv A b c) (cred (tallyAt (dcell c (kr A b)) () N)))

omit [FloatOps F] in
theorem lnTk_snd (A : Bool) (c : Dev nD) :
    iprop((s4 fun b => lnTk A c b) ∗ s4 fun b => cnd (snd A b c) (slabAny (F := F) (RM A) (tgt A c) b)) ⊢ s4 fun b => sndTk A b c := by
  rw [← s4_sep]
  refine s4_mono fun b => ?_
  unfold lnTk sndTk
  cases snd A b c
  · rw [cnd_false, cnd_false, cnd_false]; iintro -; iempintro
  · rw [cnd_true, cnd_true, cnd_true]
    iintro ⟨⟨H1, H2⟩, H3⟩
    isplitl [H1]; · iexact H1
    isplitl [H2] <;> iassumption

omit [FloatOps F] in
theorem slabs_rcv (A : Bool) (c : Dev nD) : s4 (slabAny (F := F) (RM A) c)
    ⊢ iprop((s4 fun b => cnd (rcv A b c) (slabAny (RM A) c b)) ∗ s4 fun b => cnd (!rcv A b c) (slabAny (RM A) c b)) := by
  rw [← s4_sep]
  refine s4_mono fun b => ?_
  cases rcv A b c
  · rw [cnd_false, Bool.not_false, cnd_true]; iintro H; isplitr; · iempintro
    iexact H
  · rw [cnd_true, Bool.not_true, cnd_false]; iintro H; isplitl; · iexact H
    iempintro

omit [FloatOps F] in
theorem lnCr_rcv (A : Bool) (c : Dev nD) :
    iprop((s4 fun b => lnCr A c b) ∗ s4 fun b => cnd (!rcv A b c) (slabAny (F := F) (RM A) c b)) ⊢ s4 fun b => rcvPre A b c := by
  rw [← s4_sep]
  refine s4_mono fun b => ?_
  unfold lnCr rcvPre
  cases rcv A b c
  · rw [cnd_false, Bool.not_false, cnd_true, if_neg Bool.false_ne_true]
    iintro ⟨⟨H1, -⟩, H2⟩; isplitl [H1] <;> iassumption
  · rw [cnd_true, Bool.not_true, cnd_false, if_pos rfl]
    iintro ⟨⟨H1, H2⟩, -⟩; isplitl [H1] <;> iassumption

/-! ## The body -/

/-- What a device starts from besides the pipeline's staging: its cells, tokens and credits, -/
def bodyGhost (c : Dev nD) : sProp 𝕄 :=
  iprop((dutyTok ER (barCell (xn c)) 0 0 ∗ dutyTok ER (barCell (yn c)) 0 1
        ∗ cnd (oC 2 c) (dutyTok ER (barCell (zn c)) 0 2) ∗ cnd (oC 3 c) (dutyTok ER (barCell (zp c)) 0 3))
    ∗ (cred (tallyAt (barCell c) () (barD (zz c)).card) ∗ atPos ER (barCell c) 0 ∅ 0)
    ∗ (s4 (lnTk true c) ∗ s4 (lnTk false c))
    ∗ (s4 (lnCr true c) ∗ s4 (lnCr false c))
    ∗ ((s4 fun b => atPos ER (dcell c (ks true b)) 0 ∅ 0) ∗ s4 fun b => atPos ER (dcell c (ks false b)) 0 ∅ 0)
    ∗ (dutyTok ER (dcell c 16) 0 0 ∗ dutyTok ER (dcell (xn c) 19) 0 0 ∗ dutyTok ER (dcell c 17) 0 0 ∗ dutyTok ER (dcell (yn c) 20) 0 0
        ∗ dutyTok ER (dcell c 18) 0 0 ∗ dutyTok ER (dcell (yn c) 21) 0 0)
    ∗ (excRd 19 c ∗ excRd 20 c ∗ excRd 21 c)
    ∗ (atPos ER (dcell c 16) 0 ∅ 0 ∗ atPos ER (dcell c 17) 0 ∅ 0 ∗ atPos ER (dcell c 18) 0 ∅ 0))
/-- and its scratch buffers, whatever they hold. -/
def bodyBufs (c : Dev nD) : sProp 𝕄 :=
  iprop((∃ f, wPts bM c f) ∗ (∃ f, wPts pM c f) ∗ (∃ f, wPts aM c f)
    ∗ s4 (slabAny (SM true) c) ∗ s4 (slabAny (RM true) c) ∗ s4 (slabAny (SM false) c) ∗ s4 (slabAny (RM false) c)
    ∗ gAny gA c fullShare ∗ gAny gX c fullShare ∗ gAny gY c fullShare ∗ gAny gD c fullShare)
/-- All its semaphores, at rest. -/
def bodyRest (c : Dev nD) : sProp 𝕄 :=
  iprop(semVal (barCell c) 0
    ∗ (s4 (fun b => semVal (dcell c (ks true b)) 0) ∗ s4 fun b => semVal (dcell c (kr true b)) 0)
    ∗ (s4 (fun b => semVal (dcell c (ks false b)) 0) ∗ s4 fun b => semVal (dcell c (kr false b)) 0)
    ∗ semVal (dcell c 16) 0 ∗ semVal (dcell c 17) 0 ∗ semVal (dcell c 18) 0
    ∗ semVal (dcell c 19) 0 ∗ semVal (dcell c 20) 0 ∗ semVal (dcell c 21) 0)

/-- The body of device `c`: it leaves its result, its buffers, and every semaphore at rest. -/
theorem body_run (c : Dev nD) {Q : PUnit → sProp 𝕄} :
    iprop(Env m ρ K ∗ owsX c 0 ∗ bodyGhost c ∗ bodyBufs c ∗ wPts xM c (xstg m ρ c) ∗ wPts dM c (dstg m ρ c) ∗ (∃ f, wPts oM c f))
      ⊢ iprop(((owsX c 13 ∗ bodyRest c ∗ bodyBufs c ∗ wPts xM c (xstg m ρ c) ∗ wPts dM c (dstg m ρ c) ∗ wPts oM c (outAt m ρ c)) -∗ Q ⟨⟩)
        -∗ Run c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16) Q) := by
  rw [cc0_body_eq_skeleton]
  unfold cc0_body_skel
  simp only [Prog.lift, Prog.pure_eq_ret]
  unfold bodyGhost bodyBufs
  iintro ⟨#HE, HO, ⟨⟨Ht0, Ht1, Ht2, Ht3⟩, ⟨Hcb, Hab⟩, ⟨Hlt, Hlf⟩, ⟨Hct, Hcf⟩, ⟨Has, Haf⟩, ⟨Hk16, Hk19, Hk17, Hk20, Hk18, Hk21⟩, ⟨⟨He19, Hf19⟩, ⟨He20, Hf20⟩, He21, Hf21⟩, Hg16, Hg17, Hg18⟩,
    ⟨Hb, ⟨%fp, Hp⟩, ⟨%fa, Ha⟩, HSt, HRt, HSf, HRf, HA, HX, HY, HD⟩, Hx, Hd, ⟨%fo, Ho⟩⟩ Hk
  ihave HRt := (slabs_rcv true c) $$ HRt
  icases HRt with ⟨HRt, HRt'⟩
  ihave HRf := (slabs_rcv false c) $$ HRf
  icases HRf with ⟨HRf, HRf'⟩
  ihave Hrt := (lnCr_rcv true c) $$ [Hct HRt']
  · isplitl [Hct]; · iexact Hct
    iexact HRt'
  ihave Hrf := (lnCr_rcv false c) $$ [Hcf HRf']
  · isplitl [Hcf]; · iexact Hcf
    iexact HRf'
  iapply (Entails.of_eq run_bind.symm)
  iapply (part1_run m ρ K) $$ [HO Ht0 Ht1 Ht2 Ht3 HX HY HD HRf HRt]
  · isplitr; · iexact HE
    isplitl [HO]; · iexact HO
    isplitl [Ht0]; · iexact Ht0
    isplitl [Ht1]; · iexact Ht1
    isplitl [Ht2]; · iexact Ht2
    isplitl [Ht3]; · iexact Ht3
    isplitl [HX]; · iexact HX
    isplitl [HY]; · iexact HY
    isplitl [HD]; · iexact HD
    isplitl [HRf]; · iexact HRf
    iexact HRt
  iintro HO
  have hpart : wPts pM c fp ⊢ partAt m ρ c 0 := by
    unfold partAt
    iintro H
    iexists fp
    isplitr; · ipureintro; exact fun i hi => absurd hi (Nat.not_lt_zero _)
    iexact H
  ihave Hp := hpart $$ Hp
  iapply (Entails.of_eq run_bind.symm)
  iapply (part2_run m ρ K _) $$ [Hcb HO Hab Hx Hd Hb Hp]
  · isplitr; · iexact HE
    isplitl [Hcb]; · iexact Hcb
    isplitl [HO]; · iexact HO
    isplitl [Hab]; · iexact Hab
    isplitl [Hx]; · iexact Hx
    isplitl [Hd]; · iexact Hd
    isplitl [Hb]; · iexact Hb
    iexact Hp
  iintro ⟨HO, Hzb, Hall, HP, Hd⟩
  unfold barAll
  icases Hall with ⟨HX, ⟨HY, HD⟩, HBf, HBt⟩
  ihave Htt := (lnTk_snd true c) $$ [Hlt HBt]
  · isplitl [Hlt]; · iexact Hlt
    iexact HBt
  ihave Htf := (lnTk_snd false c) $$ [Hlf HBf]
  · isplitl [Hlf]; · iexact Hlf
    iexact HBf
  unfold s4
  icases Hrt with ⟨Hrt0, Hrt1, Hrt2, Hrt3⟩
  icases Hrf with ⟨Hrf0, Hrf1, Hrf2, Hrf3⟩
  icases Htt with ⟨Htt0, Htt1, Htt2, Htt3⟩
  icases Htf with ⟨Htf0, Htf1, Htf2, Htf3⟩
  icases HSt with ⟨Hst0, Hst1, Hst2, Hst3⟩
  icases HSf with ⟨Hsf0, Hsf1, Hsf2, Hsf3⟩
  icases Has with ⟨Hat0, Hat1, Hat2, Hat3⟩
  icases Haf with ⟨Haf0, Haf1, Haf2, Haf3⟩
  ihave Hst1 := (Entails.of_eq (show slabAny (SM true) c 1 = slabSt m ρ true 1 c false from rfl)) $$ Hst1
  ihave Hst2 := (Entails.of_eq (show slabAny (SM true) c 2 = slabSt m ρ true 2 c false from rfl)) $$ Hst2
  ihave Hst3 := (Entails.of_eq (show slabAny (SM true) c 3 = slabSt m ρ true 3 c false from rfl)) $$ Hst3
  ihave Hsf0 := (Entails.of_eq (show slabAny (SM false) c 0 = slabSt m ρ false 0 c false from rfl)) $$ Hsf0
  ihave Hsf1 := (Entails.of_eq (show slabAny (SM false) c 1 = slabSt m ρ false 1 c false from rfl)) $$ Hsf1
  ihave Hsf2 := (Entails.of_eq (show slabAny (SM false) c 2 = slabSt m ρ false 2 c false from rfl)) $$ Hsf2
  iapply (Entails.of_eq run_bind.symm)
  iapply (part3_run m ρ K _ _ _ _ _) $$ [HP Hst3 Hrt3 Htt3 Hsf0 Hrf0 Htf0 HO]
  · isplitr; · iexact HE
    isplitl [HP]; · iexact HP
    isplitl [Hst3 Hrt3 Htt3]
    · isplitl [Hst3]; · iexact Hst3
      isplitl [Hrt3]; · iexact Hrt3
      iexact Htt3
    isplitl [Hsf0 Hrf0 Htf0]
    · isplitl [Hsf0]; · iexact Hsf0
      isplitl [Hrf0]; · iexact Hrf0
      iexact Htf0
    iexact HO
  iintro ⟨HP, ⟨Hst3, Hrt3⟩, ⟨Hsf0, Hrf0, Htf0⟩, HO⟩
  iapply (Entails.of_eq run_bind.symm)
  iapply (part4_run m ρ K _ _) $$ [HP Hsf0 Hrf0 Htf0 Hst2 Hrt2 Htt2 HO]
  · isplitr; · iexact HE
    isplitl [HP]; · iexact HP
    isplitl [Hsf0 Hrf0 Htf0]
    · isplitl [Hsf0]; · iexact Hsf0
      isplitl [Hrf0]; · iexact Hrf0
      iexact Htf0
    isplitl [Hst2 Hrt2 Htt2]
    · isplitl [Hst2]; · iexact Hst2
      isplitl [Hrt2]; · iexact Hrt2
      iexact Htt2
    iexact HO
  iintro ⟨HP, ⟨Hsf0, Hrf0⟩, ⟨Hst2, Hrt2, Htt2⟩, HO⟩
  iapply (Entails.of_eq run_bind.symm)
  iapply (part5_run m ρ K _ _) $$ [HP Hst2 Hrt2 Htt2 Hsf1 Hrf1 Htf1 HO]
  · isplitr; · iexact HE
    isplitl [HP]; · iexact HP
    isplitl [Hst2 Hrt2 Htt2]
    · isplitl [Hst2]; · iexact Hst2
      isplitl [Hrt2]; · iexact Hrt2
      iexact Htt2
    isplitl [Hsf1 Hrf1 Htf1]
    · isplitl [Hsf1]; · iexact Hsf1
      isplitl [Hrf1]; · iexact Hrf1
      iexact Htf1
    iexact HO
  iintro ⟨HP, ⟨Hst2, Hrt2⟩, ⟨Hsf1, Hrf1⟩, HO⟩
  iapply (Entails.of_eq run_bind.symm)
  iapply (part6_run m ρ K _ _ _) $$ [HP Hst1 Hrt1 Htt1 Hsf2 Hrf2 Htf2 Ha HO]
  · isplitr; · iexact HE
    isplitl [HP]; · iexact HP
    isplitl [Hst1 Hrt1 Htt1]
    · isplitl [Hst1]; · iexact Hst1
      isplitl [Hrt1]; · iexact Hrt1
      iexact Htt1
    isplitl [Hsf2 Hrf2 Htf2]
    · isplitl [Hsf2]; · iexact Hsf2
      isplitl [Hrf2]; · iexact Hrf2
      iexact Htf2
    isplitl [Ha]; · iexact Ha
    iexact HO
  iintro ⟨⟨Hx, Hb, Hp⟩, ⟨Hst1, Hrt1⟩, ⟨Hsf2, Hrf2⟩, Ha, HO⟩
  imod (lane_rest m ρ K true c) $$ [Hrt0 Hrt1 Hrt2 Hrt3] with ⟨Hzt, Hrt⟩
  · isplitr; · iexact HE
    unfold s4
    isplitl [Hrt0]; · iapply (Entails.of_eq (show rcvPre (F := F) true 0 c = rcvSt true 0 c (mid true 0 c) from by rw [show mid true 0 c = false from (by clear * -; revert c; decide)]; rfl)); iexact Hrt0
    isplitl [Hrt1]; · iexact Hrt1
    isplitl [Hrt2]; · iexact Hrt2
    iexact Hrt3
  imod (lane_rest m ρ K false c) $$ [Hrf0 Hrf1 Hrf2 Hrf3] with ⟨Hzf, Hrf⟩
  · isplitr; · iexact HE
    unfold s4
    isplitl [Hrf0]; · iexact Hrf0
    isplitl [Hrf1]; · iexact Hrf1
    isplitl [Hrf2]; · iexact Hrf2
    iapply (Entails.of_eq (show rcvPre (F := F) false 3 c = rcvSt false 3 c (mid false 3 c) from by rw [show mid false 3 c = false from (by clear * -; revert c; decide)]; rfl)); iexact Hrf3
  iapply (Entails.of_eq run_bind.symm)
  iapply (part7_run m ρ K _ _ _) $$ [Hzt Hzf Ha HA HX Hk16 Hk19 HO]
  · isplitr; · iexact HE
    isplitl [Hzt]; · iexact Hzt
    isplitl [Hzf]; · iexact Hzf
    isplitl [Ha]; · iexact Ha
    isplitl [HA]; · iexact HA
    isplitl [HX]; · iexact HX
    isplitl [Hk16]; · iexact Hk16
    isplitl [Hk19]; · iexact Hk19
    iexact HO
  iintro ⟨Hzt, Hzf, Ha, HA, Hc16, HO⟩
  iapply (Entails.of_eq run_bind.symm)
  iapply (part8_run m ρ K _ _ _ _) $$ [HA HY HD Hk17 Hk20 Hk18 Hk21 He19 Hf19 He20 Hf20 HO]
  · isplitr; · iexact HE
    isplitl [HA]; · iexact HA
    isplitl [HY]; · iexact HY
    isplitl [HD]; · iexact HD
    isplitl [Hk17]; · iexact Hk17
    isplitl [Hk20]; · iexact Hk20
    isplitl [Hk18]; · iexact Hk18
    isplitl [Hk21]; · iexact Hk21
    isplitl [He19]; · iexact He19
    isplitl [Hf19]; · iexact Hf19
    isplitl [He20]; · iexact He20
    isplitl [Hf20]; · iexact Hf20
    iexact HO
  iintro ⟨Hc17, Hc18, Hv19, Hv20, HX, HY, HO⟩
  have hout : wPts oM c fo ⊢ outSt m ρ c (fun _ => False) := by
    unfold outSt
    iintro H
    iexists fo
    isplitr; · ipureintro; exact fun j h => h.elim
    iexact H
  ihave Ho := hout $$ Ho
  iapply (Entails.of_eq run_bind.symm)
  iapply (part9_run m ρ K _ _ _ _ _) $$ [He21 Hf21 Ha HX HY Ho HO]
  · isplitr; · iexact HE
    isplitl [He21]; · iexact He21
    isplitl [Hf21]; · iexact Hf21
    isplitl [Ha]; · iexact Ha
    isplitl [HX]; · iexact HX
    isplitl [HY]; · iexact HY
    isplitl [Ho]; · iexact Ho
    iexact HO
  iintro ⟨Hv21, Ha, HX, HY, HD, Ho, HO⟩
  ihave Hst0 := (Entails.of_eq (show slabAny (SM true) c 0 = sndSt (F := F) true 0 c from by unfold sndSt; rw [show snd true 0 c = false from (by clear * -; revert c; decide), if_neg Bool.false_ne_true])) $$ Hst0
  ihave Hsf3 := (Entails.of_eq (show slabAny (SM false) c 3 = sndSt (F := F) false 3 c from by unfold sndSt; rw [show snd false 3 c = false from (by clear * -; revert c; decide), if_neg Bool.false_ne_true])) $$ Hsf3
  iapply (Entails.of_eq run_bind.symm)
  iapply (part10_run m ρ K) $$ [Ho Hst0 Hat0 Hsf0 Haf0 Hst1 Hat1 Hsf1 Haf1 Hst2 Hat2 Hsf2 Haf2 Hst3 Hat3 Hsf3 Haf3 Hc16 Hg16 HO]
  · isplitr; · iexact HE
    isplitl [Ho]; · iexact Ho
    isplitl [Hst0 Hat0]
    · isplitl [Hst0]; · iexact Hst0
      iexact Hat0
    isplitl [Hsf0 Haf0]
    · isplitl [Hsf0]; · iexact Hsf0
      iexact Haf0
    isplitl [Hst1 Hat1]
    · isplitl [Hst1]; · iexact Hst1
      iexact Hat1
    isplitl [Hsf1 Haf1]
    · isplitl [Hsf1]; · iexact Hsf1
      iexact Haf1
    isplitl [Hst2 Hat2]
    · isplitl [Hst2]; · iexact Hst2
      iexact Hat2
    isplitl [Hsf2 Haf2]
    · isplitl [Hsf2]; · iexact Hsf2
      iexact Haf2
    isplitl [Hst3 Hat3]
    · isplitl [Hst3]; · iexact Hst3
      iexact Hat3
    isplitl [Hsf3 Haf3]
    · isplitl [Hsf3]; · iexact Hsf3
      iexact Haf3
    isplitl [Hc16 Hg16]
    · isplitl [Hc16]; · iexact Hc16
      iexact Hg16
    iexact HO
  iintro ⟨Ho, Het0, Hef0, Het1, Hef1, Het2, Hef2, Het3, Hef3, Hv16, HA', HO⟩
  simp only [Prog.bind_op, Prog.bind_ret]
  iapply (wait_dma m ρ K 17 13 rfl (by clear * -; revert c; decide) (sem_kas 1 rfl _) (M' := gA) rfl) $$ [Hc17 HO Hg17]
  · isplitr; · iexact HE
    isplitl [Hc17]; · iexact Hc17
    isplitl [HO]; · iexact HO
    iexact Hg17
  iintro ⟨HO, Hv17, HA2⟩
  ihave HA2 := (Entails.of_eq (show dmaPay m ρ c 17 = gAny gA c fullShare.right from rfl)) $$ HA2
  iapply (wait_dma m ρ K 18 13 rfl (by clear * -; revert c; decide) (sem_kas 2 rfl _) (M' := gX) rfl) $$ [Hc18 HO Hg18]
  · isplitr; · iexact HE
    isplitl [Hc18]; · iexact Hc18
    isplitl [HO]; · iexact HO
    iexact Hg18
  iintro ⟨HO, Hv18, HX2⟩
  ihave HX2 := (Entails.of_eq (show dmaPay m ρ c 18 = gAny gX c fullShare.left from rfl)) $$ HX2
  ihave HA := (gAny_join gA c) $$ [HA' HA2]
  · isplitl [HA']; · iexact HA'
    iexact HA2
  ihave HX := (gAny_join gX c) $$ [HX2 HX]
  · isplitl [HX2]; · iexact HX2
    iexact HX
  ihave Hrt := (lane_all true c) $$ [Hzt Hrt]
  · isplitl [Hzt]; · iexact Hzt
    iexact Hrt
  ihave Hrt := (Entails.of_eq (show (s4 fun b => rcvEnd (F := F) true b c) = iprop((s4 fun b => semVal (dcell c (kr true b)) 0) ∗ s4 (slabAny (RM true) c)) from s4_sep _ _)) $$ Hrt
  icases Hrt with ⟨Hqt, HRt⟩
  ihave Hrf := (lane_all false c) $$ [Hzf Hrf]
  · isplitl [Hzf]; · iexact Hzf
    iexact Hrf
  ihave Hrf := (Entails.of_eq (show (s4 fun b => rcvEnd (F := F) false b c) = iprop((s4 fun b => semVal (dcell c (kr false b)) 0) ∗ s4 (slabAny (RM false) c)) from s4_sep _ _)) $$ Hrf
  icases Hrf with ⟨Hqf, HRf⟩
  unfold sndEnd
  icases Het0 with ⟨Hvt0, Hwt0⟩
  icases Hef0 with ⟨Hvf0, Hwf0⟩
  icases Het1 with ⟨Hvt1, Hwt1⟩
  icases Hef1 with ⟨Hvf1, Hwf1⟩
  icases Het2 with ⟨Hvt2, Hwt2⟩
  icases Hef2 with ⟨Hvf2, Hwf2⟩
  icases Het3 with ⟨Hvt3, Hwt3⟩
  icases Hef3 with ⟨Hvf3, Hwf3⟩
  iapply run_ret
  iapply Hk
  isplitl [HO]; · iexact HO
  isplitl [Hzb Hvt0 Hvt1 Hvt2 Hvt3 Hqt Hvf0 Hvf1 Hvf2 Hvf3 Hqf Hv16 Hv17 Hv18 Hv19 Hv20 Hv21]
  · unfold bodyRest
    isplitl [Hzb]; · iexact Hzb
    isplitl [Hvt0 Hvt1 Hvt2 Hvt3 Hqt]
    · isplitr [Hqt]
      · unfold s4
        isplitl [Hvt0]; · iexact Hvt0
        isplitl [Hvt1]; · iexact Hvt1
        isplitl [Hvt2]; · iexact Hvt2
        iexact Hvt3
      iexact Hqt
    isplitl [Hvf0 Hvf1 Hvf2 Hvf3 Hqf]
    · isplitr [Hqf]
      · unfold s4
        isplitl [Hvf0]; · iexact Hvf0
        isplitl [Hvf1]; · iexact Hvf1
        isplitl [Hvf2]; · iexact Hvf2
        iexact Hvf3
      iexact Hqf
    isplitl [Hv16]; · iexact Hv16
    isplitl [Hv17]; · iexact Hv17
    isplitl [Hv18]; · iexact Hv18
    isplitl [Hv19]; · iexact Hv19
    isplitl [Hv20]; · iexact Hv20
    iexact Hv21
  isplitl [Hb Hp Ha Hwt0 Hwt1 Hwt2 Hwt3 HRt Hwf0 Hwf1 Hwf2 Hwf3 HRf HA HX HY HD]
  · isplitl [Hb]; · iexists _; iexact Hb
    isplitl [Hp]
    · unfold partAt
      icases Hp with ⟨%f, -, Hp⟩
      iexists f; iexact Hp
    isplitl [Ha]; · iexists _; iexact Ha
    isplitl [Hwt0 Hwt1 Hwt2 Hwt3]
    · skip
      isplitl [Hwt0]; · iexact Hwt0
      isplitl [Hwt1]; · iexact Hwt1
      isplitl [Hwt2]; · iexact Hwt2
      iexact Hwt3
    isplitl [HRt]; · iapply (Entails.of_eq (show s4 (slabAny (F := F) (RM true) c) = iprop(slabAny (RM true) c 0 ∗ slabAny (RM true) c 1 ∗ slabAny (RM true) c 2 ∗ slabAny (RM true) c 3) from rfl)); iexact HRt
    isplitl [Hwf0 Hwf1 Hwf2 Hwf3]
    · skip
      isplitl [Hwf0]; · iexact Hwf0
      isplitl [Hwf1]; · iexact Hwf1
      isplitl [Hwf2]; · iexact Hwf2
      iexact Hwf3
    isplitl [HRf]; · iapply (Entails.of_eq (show s4 (slabAny (F := F) (RM false) c) = iprop(slabAny (RM false) c 0 ∗ slabAny (RM false) c 1 ∗ slabAny (RM false) c 2 ∗ slabAny (RM false) c 3) from rfl)); iexact HRf
    isplitl [HA]; · iexact HA
    isplitl [HX]; · iexact HX
    isplitl [HY]; · iexact HY
    iexact HD
  isplitl [Hx]; · iexact Hx
  isplitl [Hd]; · iexact Hd
  iexact Ho

end Cert.KernelIdealProof

end
-- ==== Proof.KernelIdeal.Ghost.lean ====
/-
# Dealing the tokens and the credits

What the launch makes for all devices at once — each cell's schedule and tokens, minted at the device that owns the
cell — goes to the devices that pay with it; what all devices owe comes back as the credit each waits with.
-/
module

public import proofs.«01_k».proof.Proof.KernelIdeal.Body

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

theorem kcell_inj : Function.Injective (kcell : Dev nD × Fin 23 → GSem nD τ sig) := by
  rintro ⟨c, k⟩ ⟨c', k'⟩ h
  have h1 : c = c' := congrArg (fun g : GSem nD τ sig => g.1.1) h
  have h2 : csem k = csem k' := congrArg Prod.snd h
  have h3 : k = k' := by clear h; revert k k'; decide
  rw [h1, h3]

/-- Every device's 23 cells. -/
def allCells : Finset (GSem nD τ sig) := Finset.univ.map ⟨kcell, kcell_inj⟩

/-! ## The tokens -/

/-- A device's 26 tokens: one for each completion semaphore, four for its barrier. The cell, -/
def tK (t : Fin 26) : Fin 23 := if h : t.val < 22 then ⟨t.val, by omega⟩ else 22
/-- the duty, -/
def tD (t : Fin 26) : D := if h : t.val < 22 then 0 else ⟨t.val - 22, by omega⟩
/-- and for which device's cell the token is that device `c` pays with. -/
def tE (t : Fin 26) : Dev nD ≃ Dev nD :=
  if t.val = 22 ∨ t.val = 19 then eX
  else if t.val = 23 ∨ t.val = 20 ∨ t.val = 21 then eY
  else if t.val = 24 ∨ (4 ≤ t.val ∧ t.val < 8) then eUp
  else if t.val = 25 ∨ (12 ≤ t.val ∧ t.val < 16) then eDn
  else Equiv.refl _

abbrev tokOf (ct : Dev nD × Fin 26) : GSem nD τ sig × ℕ × D := (kcell (ct.1, tK ct.2), 0, tD ct.2)
theorem tokOf_inj : Function.Injective tokOf := by
  rintro ⟨c, t⟩ ⟨c', t'⟩ h
  have h0 : (c, tK t) = (c', tK t') := kcell_inj (congrArg Prod.fst h)
  have h1 : c = c' := congrArg Prod.fst h0
  have h2 : tK t = tK t' := congrArg Prod.snd h0
  have h3 : tD t = tD t' := congrArg (fun x : GSem nD τ sig × ℕ × D => x.2.2) h
  have h4 : t = t' := by clear h h0; revert t t'; decide
  rw [h1, h4]
def allToks : Finset (GSem nD τ sig × ℕ × D) := Finset.univ.map ⟨tokOf, tokOf_inj⟩

/-- The tokens of device `c`'s own cells, -/
def mintToks (c : Dev nD) : sProp 𝕄 := bigSep Finset.univ fun t : Fin 26 => dutyTok ER (kcell (c, tK t)) 0 (tD t)
/-- and those it pays with. -/
def payToks (c : Dev nD) : sProp 𝕄 := bigSep Finset.univ fun t : Fin 26 => dutyTok ER (kcell (tE t c, tK t)) 0 (tD t)

/-- All of that at once. -/
def tEs : Dev nD × Fin 26 ≃ Dev nD × Fin 26 where
  toFun ct := (tE ct.2 ct.1, ct.2)
  invFun ct := ((tE ct.2).symm ct.1, ct.2)
  left_inv ct := Prod.ext ((tE ct.2).symm_apply_apply ct.1) rfl
  right_inv ct := Prod.ext ((tE ct.2).apply_symm_apply ct.1) rfl

omit [FloatOps F] in
theorem toks_deal : (bigSep Finset.univ fun c : Dev nD => (mintToks c : sProp 𝕄)) = bigSep Finset.univ fun c : Dev nD => payToks c := by
  unfold mintToks payToks
  rw [← bigSep_univ_prod (fun ct : Dev nD × Fin 26 => (dutyTok ER (kcell (ct.1, tK ct.2)) 0 (tD ct.2) : sProp 𝕄)), bigSep_univ_equiv tEs, bigSep_univ_prod]
  rfl

/-! ## The launch's element -/

def u₀ : UU :=
  (initOf (Pipeline.cells cfgs cellOf_inj) (Pipeline.launchToks cfgs cellOf_inj), initOf allCells allToks)

/-- What the launch's element gives device `c`: its cells' schedules, positions and tokens. -/
def G (c : Dev nD) : sProp 𝕄 :=
  iprop((bigSep Finset.univ fun k : Fin 23 => roundState ER (Rd m ρ) (kcell (c, k)) 0)
    ∗ ((bigSep Finset.univ fun k : Fin 23 => atPos ER (kcell (c, k)) 0 ∅ 0) ∗ bigSep Finset.univ fun k : Fin 23 => reached ER (kcell (c, k)) 0)
    ∗ mintToks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 23 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => mintToks c := by
    unfold allToks; rw [bigSep_map, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSemFacts : Pipeline.OwnSemFacts cfg0.spec osem := by decide

abbrev own0 (c : Dev nD) : sProp 𝕄 := Pipeline.ownSems0 (Ix := Unit) (Name := ℕ) (U := UU) (Lvl := ℕ) (Val := Elt F) (τ := τ) osem c

omit [FloatOps F] in
/-- The kernel's completion semaphores, one by one, -/
theorem own0_eq (c : Dev nD) : (own0 c : sProp 𝕄) = bigSep Finset.univ fun k : Fin 22 => semVal (dcell c k) 0 := rfl
omit [FloatOps F] in
/-- and the barrier semaphore, the launch's one unscoped semaphore. -/
theorem unscoped0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_fin22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ
omit [FloatOps F] in
theorem bigSep_fin23 (Φ : Fin 23 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22) :=
  bigSep_univ_eq_bigSepL [0, 1, 2, 3, 4, 5, 6, 7, 8, 9, 10, 11, 12, 13, 14, 15, 16, 17, 18, 19, 20, 21, 22] (by decide) (by decide) Φ
omit [FloatOps F] in
theorem bigSep_fin26 (Φ : Fin 26 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) :=
  bigSep_univ_eq_bigSepL [0, 1, 2, 3, 4, 5, 6, 7, 8, 9, 10, 11, 12, 13, 14, 15, 16, 17, 18, 19, 20, 21, 22, 23, 24, 25] (by decide) (by decide) Φ
omit [FloatOps F] in
theorem bigSep_fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

omit [FloatOps F] in
theorem sems0 (c : Dev nD) : iprop(own0 c ∗ unscopedSems0 c) ⊢ (bigSep Finset.univ fun k : Fin 23 => semVal (kcell (c, k)) 0 : sProp 𝕄) := by
  rw [own0_eq, unscoped0_eq, bigSep_fin22, bigSep_fin23]
  iintro ⟨⟨H0, H1, H2, H3, H4, H5, H6, H7, H8, H9, H10, H11, H12, H13, H14, H15, H16, H17, H18, H19, H20, H21⟩, HB⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact HB

/-! ## The invariants -/

theorem core_alloc (c : Dev nD) : iprop(own0 c ∗ unscopedSems0 c ∗ G m ρ c)
      ⊢ |={Set.univ}=> iprop((bigSep Finset.univ fun k : Fin 23 => iprop(∃ κ : ℕ, cellInv ER (Rd m ρ) κ (kcell (c, k))))
          ∗ ((bigSep Finset.univ fun k : Fin 23 => atPos ER (kcell (c, k)) 0 ∅ 0) ∗ bigSep Finset.univ fun k : Fin 23 => reached ER (kcell (c, k)) 0)
          ∗ mintToks c) := by
  unfold G
  iintro ⟨Hos, Hus, Hst, Hat, Htok⟩
  ihave Hv := (sems0 (F := F) c) $$ [Hos Hus]
  · isplitl [Hos] <;> iassumption
  imod (show iprop((bigSep Finset.univ fun k : Fin 23 => semVal (kcell (c, k)) 0) ∗ bigSep Finset.univ fun k : Fin 23 => roundState ER (Rd m ρ) (kcell (c, k)) 0)
      ⊢ (|={Set.univ}=> bigSep Finset.univ fun k : Fin 23 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all devices know of the cells. -/
def known (K : Dev nD × Fin 23 → ℕ) : sProp 𝕄 :=
  iprop((bigSep Finset.univ fun ck : Dev nD × Fin 23 => cellInv ER (Rd m ρ) (K ck) (kcell ck))
    ∗ bigSep Finset.univ fun ck : Dev nD × Fin 23 => reached ER (kcell ck) 0)
instance known_persistent (K : Dev nD × Fin 23 → ℕ) : BI.Persistent (known m ρ K) := by unfold known; infer_instance

/-- What a device has for itself: its positions and the tokens it pays with. -/
def mine (c : Dev nD) : sProp 𝕄 := iprop((bigSep Finset.univ fun k : Fin 23 => atPos ER (kcell (c, k)) 0 ∅ 0) ∗ payToks c)
/-- What the launch leaves device `c` with. -/
def G' (c : Dev nD) : sProp 𝕄 := iprop(∃ K, known m ρ K ∗ mine c)

omit [FloatOps F] in
theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem known_mine (K : Dev nD × Fin 23 → ℕ) (c : Dev nD) : iprop(known m ρ K ∗ mine c) ⊢ G' m ρ c := by
  unfold G'; iintro H; iexists K; iexact H

theorem regroup :
    (bigSep Finset.univ fun c : Dev nD => iprop((bigSep Finset.univ fun k : Fin 23 => iprop(∃ κ : ℕ, cellInv ER (Rd m ρ) κ (kcell (c, k))))
          ∗ ((bigSep Finset.univ fun k : Fin 23 => atPos ER (kcell (c, k)) 0 ∅ 0) ∗ bigSep Finset.univ fun k : Fin 23 => reached ER (kcell (c, k)) 0)
          ∗ mintToks c) : sProp 𝕄)
      ⊢ bigSep Finset.univ (G' m ρ) := by
  rw [bigSep_sep', bigSep_sep', bigSep_sep', toks_deal,
    ← bigSep_univ_prod (fun ck : Dev nD × Fin 23 => iprop(∃ κ : ℕ, cellInv ER (Rd m ρ) κ (kcell ck))),
    ← bigSep_univ_prod (fun ck : Dev nD × Fin 23 => (reached ER (kcell ck) 0 : sProp 𝕄))]
  iintro ⟨HI, ⟨Hat, #HR⟩, Htok⟩
  ihave HK := (BI.bigSep_exists_pi Finset.univ (fun (ck : Dev nD × Fin 23) (κ : ℕ) => (cellInv ER (Rd m ρ) κ (kcell ck) : sProp 𝕄))) $$ HI
  icases HK with ⟨%K, #HI⟩
  iapply (bigSep_keep (R := known m ρ K) fun c _ => known_mine m ρ K c)
  isplitr
  · unfold known; isplitl; · iexact HI
    iexact HR
  · iapply (Entails.of_eq (bigSep_sep' Finset.univ (fun c : Dev nD => bigSep Finset.univ fun k : Fin 23 => (atPos ER (kcell (c, k)) 0 ∅ 0 : sProp 𝕄)) payToks).symm)
    isplitl [Hat]; · iexact Hat
    iexact Htok

/-- All devices' semaphores become the cells' invariants at once. -/
theorem glob : (bigSep Finset.univ fun c => iprop(own0 c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The credits -/

omit [FloatOps F] in
/-- What all devices owe by their `e`-th payment comes to device `c` from the device that pays it there. -/
theorem cred_term (e : Fin 13) (c : Dev nD) :
    (Pipeline.launchCred (oterm e) c : sProp 𝕄) ⊢ cred (tallyAt (kcell (c, oK e)) () (if oC e (oI e c) then oN e else 0)) := by
  refine (Pipeline.launchCred_elim _ c (csem (oK e))).trans (Entails.of_eq (congrArg cred ?_))
  show tallyOn (kcell (c, oK e)) _ = _
  unfold tallyAt
  refine congrArg _ (Finsupp.ext fun u => ?_)
  cases u
  rw [Pipeline.launchCredit_owing, Finsupp.single_eq_same]
  have ht (d : Dev nD) : oterm e d (kcell (c, oK e)) () = if kcell (c, oK e) = kcell (oT e d, oK e) ∧ () = () then (if oC e d then oN e else 0) else 0 :=
    tallyAt_apply _ _ _ _ _
  show ∑ d : Dev nD, oterm e d (kcell (c, oK e)) () = _
  rw [Finset.sum_congr rfl fun d _ => ht d, Finset.sum_eq_single (oI e c)]
  · rw [oT_oI, if_pos ⟨rfl, rfl⟩]
  · intro d _ hd
    refine if_neg fun h => hd ?_
    have h1 : c = oT e d := congrArg Prod.fst (kcell_inj h.1)
    rw [h1, oI_oT]
  · intro h; exact absurd (Finset.mem_univ _) h

omit [FloatOps F] in
theorem creds (c : Dev nD) : (Pipeline.launchCred (fun d => Ow d 0) c : sProp 𝕄)
    ⊢ bigSep Finset.univ fun e : Fin 13 => cred (tallyAt (kcell (c, oK e)) () (if oC e (oI e c) then oN e else 0)) := by
  have h : (fun d : Dev nD => Ow d 0) = fun d => ∑ e ∈ (Finset.univ : Finset (Fin 13)), oterm e d :=
    funext fun d => Finset.sum_congr (by decide) fun _ _ => rfl
  rw [h, Pipeline.launchCred_sum]
  exact bigSep_mono fun e _ => cred_term e c

omit [FloatOps F] in
theorem cred_if (g : GSem nD τ sig) (p q : Bool) (h : p = q) : (cred (tallyAt g () (if p then N else 0)) : sProp 𝕄) ⊢ cnd q (cred (tallyAt g () N)) := by
  subst h
  cases p
  · rw [cnd_false]; iintro -; iempintro
  · rw [cnd_true]; exact BI.Entails.refl _
omit [FloatOps F] in
theorem cnd_of (p : Bool) (P : sProp 𝕄) : P ⊢ cnd p P := by
  cases p
  · rw [cnd_false]; iintro -; iempintro
  · exact Entails.of_eq (cnd_true P).symm
omit [FloatOps F] in
theorem cred_join (g : GSem nD τ sig) (a b : ℕ) : iprop(cred (tallyAt g () a) ∗ cred (tallyAt g () b)) ⊢ (cred (tallyAt g () (a + b)) : sProp 𝕄) := by
  rw [← tallyAt_add]; exact (cred_add _ _).2

theorem bar_count (c : Dev nD) : 1 + (1 + ((if oC 2 (oI 2 c) then 1 else 0) + (if oC 3 (oI 3 c) then 1 else 0))) = (barD (zz c)).card := by
  revert c; decide

omit [FloatOps F] in
/-- The four devices' units make up what the barrier waits for. -/
theorem bar_cred (c : Dev nD) :
    iprop(cred (tallyAt (kcell (c, oK 0)) () (if oC 0 (oI 0 c) then oN 0 else 0)) ∗ cred (tallyAt (kcell (c, oK 1)) () (if oC 1 (oI 1 c) then oN 1 else 0))
      ∗ cred (tallyAt (kcell (c, oK 2)) () (if oC 2 (oI 2 c) then oN 2 else 0)) ∗ cred (tallyAt (kcell (c, oK 3)) () (if oC 3 (oI 3 c) then oN 3 else 0)))
      ⊢ (cred (tallyAt (barCell c) () (barD (zz c)).card) : sProp 𝕄) := by
  rw [← bar_count c]
  iintro ⟨H0, H1, H2, H3⟩
  iapply (cred_join (barCell c) _ _)
  isplitl [H0]; · iexact H0
  iapply (cred_join (barCell c) _ _)
  isplitl [H1]; · iexact H1
  iapply (cred_join (barCell c) _ _)
  isplitl [H2]; · iexact H2
  iexact H3

/-! ## What a device starts with -/

omit [FloatOps F] in
/-- Its positions, tokens and credits are what the body starts from. -/
theorem ghost_of (c : Dev nD) : iprop(mine c ∗ Pipeline.launchCred (fun d => Ow d 0) c) ⊢ (bodyGhost c : sProp 𝕄) := by
  refine (sep_mono_right (creds c)).trans ?_
  unfold mine payToks bodyGhost
  rw [bigSep_fin23, bigSep_fin26, bigSep_fin13]
  iintro ⟨⟨⟨A0, A1, A2, A3, A4, A5, A6, A7, A8, A9, A10, A11, A12, A13, A14, A15, A16, A17, A18, A19, A20, A21, A22⟩, T0, T1, T2, T3, T4, T5, T6, T7, T8, T9, T10, T11, T12, T13, T14, T15, T16, T17, T18, T19, T20, T21, T22, T23, T24, T25⟩, C0, C1, C2, C3, C4, C5, C6, C7, C8, C9, C10, C11, C12⟩
  isplitl [T22 T23 T24 T25]
  · isplitl [T22]
    · iexact T22
    isplitl [T23]
    · iexact T23
    isplitl [T24]
    · iapply (cnd_of _ _); iexact T24
    iapply (cnd_of _ _); iexact T25
  isplitl [C0 C1 C2 C3 A22]
  · isplitl [C0 C1 C2 C3]
    · iapply (bar_cred c)
      isplitl [C0]
      · iexact C0
      isplitl [C1]
      · iexact C1
      isplitl [C2]
      · iexact C2
      iexact C3
    iexact A22
  isplitl [T0 T4 T1 T5 T2 T6 T3 T7 T8 T12 T9 T13 T10 T14 T11 T15]
  · isplitl [T0 T4 T1 T5 T2 T6 T3 T7]
    · unfold s4
      isplitl [T0 T4]
      · unfold lnTk
        iapply (cnd_of _ _)
        isplitl [T0]
        · iexact T0
        iexact T4
      isplitl [T1 T5]
      · unfold lnTk
        iapply (cnd_of _ _)
        isplitl [T1]
        · iexact T1
        iexact T5
      isplitl [T2 T6]
      · unfold lnTk
        iapply (cnd_of _ _)
        isplitl [T2]
        · iexact T2
        iexact T6
      unfold lnTk
      iapply (cnd_of _ _)
      isplitl [T3]
      · iexact T3
      iexact T7
    unfold s4
    isplitl [T8 T12]
    · unfold lnTk
      iapply (cnd_of _ _)
      isplitl [T8]
      · iexact T8
      iexact T12
    isplitl [T9 T13]
    · unfold lnTk
      iapply (cnd_of _ _)
      isplitl [T9]
      · iexact T9
      iexact T13
    isplitl [T10 T14]
    · unfold lnTk
      iapply (cnd_of _ _)
      isplitl [T10]
      · iexact T10
      iexact T14
    unfold lnTk
    iapply (cnd_of _ _)
    isplitl [T11]
    · iexact T11
    iexact T15
  isplitl [A4 A5 C8 A6 C6 A7 C4 A12 C5 A13 C7 A14 C9 A15]
  · isplitl [A4 A5 C8 A6 C6 A7 C4]
    · unfold s4
      isplitl [A4]
      · unfold lnCr
        isplitl [A4]; · iexact A4
        iapply (Entails.of_eq (show (iprop(emp) : sProp 𝕄) = _ from by rw [show rcv true 0 c = false from by revert c; decide, cnd_false])); iempintro
      isplitl [A5 C8]
      · unfold lnCr
        isplitl [A5]; · iexact A5
        iapply (cred_if (dcell c 5) (oC 8 (oI 8 c)) (rcv true 1 c) (by revert c; decide)); iexact C8
      isplitl [A6 C6]
      · unfold lnCr
        isplitl [A6]; · iexact A6
        iapply (cred_if (dcell c 6) (oC 6 (oI 6 c)) (rcv true 2 c) (by revert c; decide)); iexact C6
      unfold lnCr
      isplitl [A7]; · iexact A7
      iapply (cred_if (dcell c 7) (oC 4 (oI 4 c)) (rcv true 3 c) (by revert c; decide)); iexact C4
    unfold s4
    isplitl [A12 C5]
    · unfold lnCr
      isplitl [A12]; · iexact A12
      iapply (cred_if (dcell c 12) (oC 5 (oI 5 c)) (rcv false 0 c) (by revert c; decide)); iexact C5
    isplitl [A13 C7]
    · unfold lnCr
      isplitl [A13]; · iexact A13
      iapply (cred_if (dcell c 13) (oC 7 (oI 7 c)) (rcv false 1 c) (by revert c; decide)); iexact C7
    isplitl [A14 C9]
    · unfold lnCr
      isplitl [A14]; · iexact A14
      iapply (cred_if (dcell c 14) (oC 9 (oI 9 c)) (rcv false 2 c) (by revert c; decide)); iexact C9
    unfold lnCr
    isplitl [A15]; · iexact A15
    iapply (Entails.of_eq (show (iprop(emp) : sProp 𝕄) = _ from by rw [show rcv false 3 c = false from by revert c; decide, cnd_false])); iempintro
  isplitl [A0 A1 A2 A3 A8 A9 A10 A11]
  · isplitl [A0 A1 A2 A3]
    · unfold s4
      isplitl [A0]
      · iexact A0
      isplitl [A1]
      · iexact A1
      isplitl [A2]
      · iexact A2
      iexact A3
    unfold s4
    isplitl [A8]
    · iexact A8
    isplitl [A9]
    · iexact A9
    isplitl [A10]
    · iexact A10
    iexact A11
  isplitl [T16 T19 T17 T20 T18 T21]
  · isplitl [T16]
    · iexact T16
    isplitl [T19]
    · iexact T19
    isplitl [T17]
    · iexact T17
    isplitl [T20]
    · iexact T20
    isplitl [T18]
    · iexact T18
    iexact T21
  isplitl [C10 A19 C11 A20 C12 A21]
  · isplitl [C10 A19]
    · isplitl [C10]
      · iexact C10
      iexact A19
    isplitl [C11 A20]
    · isplitl [C11]
      · iexact C11
      iexact A20
    isplitl [C12]
    · iexact C12
    iexact A21
  isplitl [A16]
  · iexact A16
  isplitl [A17]
  · iexact A17
  iexact A18

end Cert.KernelIdealProof

end
-- ==== Proof.KernelIdeal.Launch.lean ====
/-
# The run of the whole program

The pipeline's proof data, the body's obligation, and the run on all sixteen devices: every execution ends, with each
device's result at its computed contents, its arguments unchanged and every semaphore at zero.
-/
module

public import proofs.«01_k».proof.Proof.KernelIdeal.Ghost
public import proofs.«01_k».proof.Proof.Gen.KernelIdeal.Points
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device's body starts from. -/
def start (c : Dev nD) : sProp 𝕄 := iprop(∃ K, Env m ρ K ∗ bodyGhost c)
def Φ₀ (c : Dev nD) : sProp 𝕄 := iprop(start m ρ c ∗ bodyBufs c)
/-- What it leaves. -/
def Φ₁ (c : Dev nD) : sProp 𝕄 := iprop(bodyRest (F := F) c ∗ bodyBufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => Ow c 0
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xstg m ρ c) ∗ stg c cc0_stg1_0 (dstg m ρ c) ∗ stg c cc0_stg2_0 (outAt m ρ c))

theorem body_ok (c : Dev nD) : bodyPre m ρ c ⊢ Run c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16) (fun _ => bodyPost m ρ c) := by
  unfold bodyPre Φ₀ start
  iintro ⟨⟨⟨%K, #HE, Hg⟩, Hb⟩, Ho, ⟨%d0, %g0, %h0, Hx⟩, ⟨%d1, %g1, %h1, Hd⟩, ⟨%d2, %g2, %h2, Hout⟩⟩
  have hx : g0 = xstg m ρ c := by rw [h0]; unfold Dat.before; rw [if_pos (fetch0_0 t0_0)]; rfl
  have hd : g1 = dstg m ρ c := by rw [h1]; unfold Dat.before; rw [if_pos (fetch0_1 t0_0)]; rfl
  subst hx hd
  unfold Dat.owesAt Pipeline.owesWithin
  icases Ho with ⟨%W, %hW, HO⟩
  have hX : (owes (c : Thread nD τ) ((dats m ρ 0 c).owed t0_0.castSucc) W : sProp 𝕄) ⊢ owsX c 0 := by
    unfold owsX; iintro H; iexists W; iexact H
  ihave HO := hX $$ HO
  iapply (body_run m ρ K c) $$ [HO Hg Hb Hx Hd Hout]
  · isplitr; · iexact HE
    isplitl [HO]; · iexact HO
    isplitl [Hg]; · iexact Hg
    isplitl [Hb]; · iexact Hb
    isplitl [Hx]; · iexact Hx
    isplitl [Hd]; · iexact Hd
    iexists g2; iexact Hout
  iintro ⟨HO, Hr, Hb, Hx, Hd, Hout⟩
  unfold bodyPost Φ₁ Dat.owesAt Pipeline.owesWithin
  isplitl [Hr Hb]
  · isplitl [Hr]; · iexact Hr
    iexact Hb
  isplitl [HO]
  · unfold owsX
    icases HO with ⟨%W', HO⟩
    iexists W'
    isplitr; · ipureintro; exact fun _ _ => Or.inl trivial
    iapply (Entails.of_eq (show (owes (c : Thread nD τ) (Ow c 13) W' : sProp 𝕄) = owes (c : Thread nD τ) ((dats m ρ 0 c).owed t0_0.succ) W' from by rw [Ow_end]; rfl))
    iexact HO
  isplitl [Hx]
  · iexists _; isplitr; · (ipureintro; rfl)
    iexact Hx
  isplitl [Hd]
  · iexists _; isplitr; · (ipureintro; rfl)
    iexact Hd
  iexists _; isplitr; · (ipureintro; rfl)
  iexact Hout

/-- The pipeline's body obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_ok m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' m ρ c)
      ⊢ |={Set.univ}=> iprop(start m ρ c ∗ emp) := by
  unfold G' start Env known
  iintro ⟨-, Hlev, Hcr, -, ⟨%K, ⟨HI, HR⟩, Hm⟩⟩
  ihave Hg := (ghost_of (F := F) c) $$ [Hm Hcr]
  · isplitl [Hm]; · iexact Hm
    iexact Hcr
  imodintro
  isplitl
  · iexists K
    isplitr [Hg]
    · isplitl [HI]; · iexact HI
      isplitl [HR]; · iexact HR
      iexact Hlev
    iexact Hg
  · iempintro

omit [FloatOps F] in
/-- The scratch buffers as the body holds them, -/
theorem bufs_of (c : Dev nD) : (Pipeline.scopedRest (Ix := Unit) (Name := ℕ) (U := UU) (Lvl := ℕ) (Val := Elt F) spec0 c : sProp 𝕄) ⊢ bodyBufs c := by
  rw [scopedRest0_eq]
  unfold bodyBufs
  iintro ⟨Hb, Hp, Ha, ⟨%f3, H3⟩, ⟨%f4, H4⟩, ⟨%f5, H5⟩, ⟨%f6, H6⟩, ⟨%f7, H7⟩, ⟨%f8, H8⟩, ⟨%f9, H9⟩, %f10, H10⟩
  isplitl [Hb]; · iexact Hb
  isplitl [Hp]; · iexact Hp
  isplitl [Ha]; · iexact Ha
  isplitl [H3]
  · iapply (slabs_split (SM true) c f3)
    rw [SM_set]
    iexact H3
  isplitl [H4]
  · iapply (slabs_split (RM true) c f4)
    rw [RM_set]
    iexact H4
  isplitl [H5]
  · iapply (slabs_split (SM false) c f5)
    rw [SM_set]
    iexact H5
  isplitl [H6]
  · iapply (slabs_split (RM false) c f6)
    rw [RM_set]
    iexact H6
  isplitl [H7]
  · unfold gAny
    iexists f7
    rw [show (gA : Memref sig .tc .vmem S256x1024 .bf16).view.set = Finset.univ from View.set_whole _]
    iexact H7
  isplitl [H8]
  · unfold gAny
    iexists f8
    rw [show (gX : Memref sig .tc .vmem S256x1024 .bf16).view.set = Finset.univ from View.set_whole _]
    iexact H8
  isplitl [H9]
  · unfold gAny
    iexists f9
    rw [show (gY : Memref sig .tc .vmem S256x1024 .bf16).view.set = Finset.univ from View.set_whole _]
    iexact H9
  unfold gAny
  iexists f10
  rw [show (gD : Memref sig .tc .vmem S256x1024 .bf16).view.set = Finset.univ from View.set_whole _]
  iexact H10

omit [FloatOps F] in
/-- and back. -/
theorem bufs_to (c : Dev nD) : bodyBufs c ⊢ (Pipeline.scopedRest (Ix := Unit) (Name := ℕ) (U := UU) (Lvl := ℕ) (Val := Elt F) spec0 c : sProp 𝕄) := by
  rw [scopedRest0_eq]
  unfold bodyBufs
  iintro ⟨Hb, Hp, Ha, H3, H4, H5, H6, H7, H8, H9, H10⟩
  isplitl [Hb]; · iexact Hb
  isplitl [Hp]; · iexact Hp
  isplitl [Ha]; · iexact Ha
  isplitl [H3]
  · ihave H := (slabs_join (SM true) c) $$ H3
    rw [SM_set]
    iexact H
  isplitl [H4]
  · ihave H := (slabs_join (RM true) c) $$ H4
    rw [RM_set]
    iexact H
  isplitl [H5]
  · ihave H := (slabs_join (SM false) c) $$ H5
    rw [SM_set]
    iexact H
  isplitl [H6]
  · ihave H := (slabs_join (RM false) c) $$ H6
    rw [RM_set]
    iexact H
  isplitl [H7]
  · unfold gAny
    rw [show (gA : Memref sig .tc .vmem S256x1024 .bf16).view.set = Finset.univ from View.set_whole _]
    iexact H7
  isplitl [H8]
  · unfold gAny
    rw [show (gX : Memref sig .tc .vmem S256x1024 .bf16).view.set = Finset.univ from View.set_whole _]
    iexact H8
  isplitl [H9]
  · unfold gAny
    rw [show (gY : Memref sig .tc .vmem S256x1024 .bf16).view.set = Finset.univ from View.set_whole _]
    iexact H9
  unfold gAny
  rw [show (gD : Memref sig .tc .vmem S256x1024 .bf16).view.set = Finset.univ from View.set_whole _]
  iexact H10

omit [FloatOps F] in
/-- Every semaphore at rest. -/
theorem rest_to (c : Dev nD) : bodyRest c ⊢ (iprop(unscopedSems0 c ∗ own0 c) : sProp 𝕄) := by
  rw [own0_eq, unscoped0_eq, bigSep_fin22]
  unfold bodyRest s4
  iintro ⟨HB, ⟨⟨H0, H1, H2, H3⟩, H4, H5, H6, H7⟩, ⟨⟨H8, H9, H10, H11⟩, H12, H13, H14, H15⟩, H16, H17, H18, H19, H20, H21⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (bufs_of c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hr, Hb⟩
  ihave H := (rest_to (F := F) c) $$ Hr
  icases H with ⟨H1, H2⟩
  isplitl [H1]; · iexact H1
  isplitl [H2]; · iexact H2
  iapply (bufs_to c); iexact Hb

theorem lv_pos (c : Dev nD) (e : Fin 13) : 0 < lvK (oK e) (zz (oT e c)) := by revert c e; decide

/-- A device may wait for its own staging at any time: a staging semaphore lies below every payment. -/
theorem stage_wait (c : Dev nD) (s : DmaSem sig) (hs : s.val < 3) (j : ℕ) : (levAts L lv : sProp 𝕄) ⊢ MayWait (c : Thread nD τ) (.dma s) () (Ow c j) :=
  mayOwe c _ 0 j
    (fun p hp => by
      rw [Finset.mem_singleton.mp hp]
      show (match own? s with | some k => lvD k (zz c) | none => 0) ≤ 0
      rw [show own? s = none from dif_neg (by omega)])
    (fun e _ _ => lv_pos c e)

theorem waits (c : Dev nD) : (levAts L lv : sProp 𝕄) ⊢ Pipeline.cellsWaits cfgs (dats m ρ) () 0 c :=
  Pipeline.cellsWaits_intro cfgs (dats m ρ) () 0 c fun w s t => by
    have hO : (dats m ρ 0 c).owed t = Ow c 0 ∨ (dats m ρ 0 c).owed t = Ow c 13 := by
      rcases t with ⟨_ | _, ht⟩
      · exact Or.inl rfl
      · exact Or.inr (Ow_end c).symm
    rcases hO with h | h <;> rw [h] <;> exact stage_wait c _ (by fin_cases w <;> fin_cases s <;> decide) _

/-! ## The run -/

/-- What device `c`'s window `w` holds at the end. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

/-- For any float values, any memory and every counter at zero: every weakly fair execution on the sixteen devices ends,
    each device's arrays at what the proof data say and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => Ow d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem emb_out (t : Fin cfg0.N) (i : S256x4096.Idx) : ((cfg0.win 2).blk t).view.emb i = i := by
  rw [fin_N0 t]
  refine funext fun a => Fin.ext ?_
  match a with
  | ⟨0, _⟩ => show 0 + 1 * (i 0).val = (i 0).val; omega
  | ⟨1, _⟩ => show 0 + 1 * (i 1).val = (i 1).val; omega
theorem read_out (G : S256x4096.Idx → Elt F .f32) (t : Fin cfg0.N) : ((cfg0.win 2).blk t).view.read (Elt F) G = G :=
  funext fun i => congrArg G (emb_out t i)

/-- The two arguments end as they began, -/
theorem finalA_x (c : Dev nD) : finalA m ρ c (0 : Fin 3) = m ((c : Thread nD τ).loc main_arg0) := (dats (F := F) m ρ 0 c).arrAt_in (0 : Fin 3) rfl _
theorem finalA_dy (c : Dev nD) : finalA m ρ c (1 : Fin 3) = m ((c : Thread nD τ).loc main_arg1) := (dats (F := F) m ρ 0 c).arrAt_in (1 : Fin 3) rfl _
/-- and the result holds what the body stored. -/
theorem finalA_out (c : Dev nD) : finalA m ρ c (2 : Fin 3) = outAt m ρ c :=
  (dats m ρ 0 c).arrAt_eq_of_cover 2 (outAt m ρ c)
    (fun t _ => (read_out (outAt m ρ c) t).symm)
    (fun i => ⟨t0_0, flush0_2 _, Finset.mem_map.mpr ⟨i, Finset.mem_univ _, emb_out t0_0 i⟩⟩)

/-- The run, read at the program's arrays. -/
theorem run_arrays : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c 2).trans (finalA_out m ρ c), (h.1 c 0).trans (finalA_x m ρ c), (h.1 c 1).trans (finalA_dy m ρ c)⟩, h.2⟩)
    (run_main m ρ)

end Cert.KernelIdealProof

end
-- ==== Proof.KernelIdeal.Value.lean ====
/-
  What the kernel computes, read in exact arithmetic. Casts between the float formats change nothing there, so a
  device's result is, element by element, the sum over the four devices of its `z` line of their partial products
  (`acc2_apply`); a partial product is a sum over the 1024 rows of the device's block of `x` and of `dy` (`pv_apply`).
  Together: `outAt_apply`, an element of the result as a double sum over the devices' blocks. `outAt_block` says of
  devices that hold the blocks of whole arrays `X` and `Y` that each ends with its block of the reference's term of
  `X` and `Y`.
-/
module

public import proofs.«01_k».proof.Proof.KernelIdeal.Result
public import proofs.«01_k».proof.Proof.Gen.ReferenceIdeal.Run
public import Idealize.ShloMosaic.Lib.Pointwise
public import Idealize.ShloMosaic.Lib.Layout

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

section Payloads

/-- A partial product, element by element: a sum over the rows. -/
theorem pay2_apply (a : Vec Ideal S1024x256 .bf16) (b : Vec Ideal S1024x1024 .bf16) (r : Fin 256) (s : Fin 1024) :
    k0_pay2 a b (ix3 (0 : Fin 1) r s) = ∑ k : Fin 1024, a (ix2 k r) * b (ix2 k s) := by
  pointwise [k0_pay2]

/-- What starts a lane is the partial product itself, -/
theorem pay5_apply (p : Vec Ideal S1x256x1024 .f32) (r : Fin 256) (s : Fin 1024) :
    k0_pay5 p (ix3 (0 : Fin 1) r s) = p (ix3 (0 : Fin 1) r s) := by
  pointwise [k0_pay5]
/-- and each step adds the device's own. -/
theorem pay4_apply (v : Vec Ideal S1x256x1024 .bf16) (p : Vec Ideal S1x256x1024 .f32) (r : Fin 256) (s : Fin 1024) :
    k0_pay4 v p (ix3 (0 : Fin 1) r s) = v (ix3 (0 : Fin 1) r s) + p (ix3 (0 : Fin 1) r s) := by
  pointwise [k0_pay4]
/-- The accumulator starts as the device's own partial product, -/
theorem pay20_apply (p : Vec Ideal S1x256x1024 .f32) (r : Fin 256) (s : Fin 1024) :
    k0_pay20 (k0_pay19 p) (ix2 r s) = p (ix3 (0 : Fin 1) r s) := by
  pointwise [k0_pay20, k0_pay19]
/-- takes the right lane's sum, -/
theorem pay21_apply (a : Vec Ideal S256x1024 .f32) (v : Vec Ideal S1x256x1024 .bf16) (r : Fin 256) (s : Fin 1024) :
    k0_pay21 a v (ix2 r s) = a (ix2 r s) + v (ix3 (0 : Fin 1) r s) := by
  pointwise [k0_pay21]
/-- and the left lane's. -/
theorem pay22_apply (a : Vec Ideal S256x1024 .f32) (v : Vec Ideal S1x256x1024 .bf16) (r : Fin 256) (s : Fin 1024) :
    k0_pay22 a v (ix2 r s) = a (ix2 r s) + v (ix3 (0 : Fin 1) r s) := by
  pointwise [k0_pay22]
/-- Rounding for the exchange and widening again change nothing. -/
theorem pay24_23 (a : Vec Ideal S256x1024 .f32) : k0_pay24 (k0_pay23 a) = a := by
  funext i
  idx_vars i
  pointwise [k0_pay24, k0_pay23]
theorem pay1_eq (b : Vec Ideal S1024x1024 .bf16) : k0_pay1 b = b := by
  funext i
  idx_vars i
  pointwise [k0_pay1]

end Payloads

variable (mI : (ℓ : Loc nD τ sig) → Buf (Elt Ideal) ℓ) (σ : Dev nD → PrngReg)

/-! ## The blocks a device reads -/

/-- A device's block of `x`, -/
abbrev xArr (c : Dev nD) : Vec Ideal S1024x1024 .bf16 := mI ((c : Thread nD τ).loc main_arg0)
/-- and of `dy`. -/
abbrev dyArr (c : Dev nD) : Vec Ideal S1024x4096 .bf16 := mI ((c : Thread nD τ).loc main_arg1)

theorem xstg_eq (c : Dev nD) : xstg mI σ c = xArr mI c := by
  refine funext fun i => congrArg (xArr mI c) (funext fun a => Fin.ext ?_)
  match a with
  | ⟨0, _⟩ => show 0 + 1 * (i 0).val = (i 0).val; omega
  | ⟨1, _⟩ => show 0 + 1 * (i 1).val = (i 1).val; omega
theorem dstg_eq (c : Dev nD) : dstg mI σ c = dyArr mI c := by
  refine funext fun i => congrArg (dyArr mI c) (funext fun a => Fin.ext ?_)
  match a with
  | ⟨0, _⟩ => show 0 + 1 * (i 0).val = (i 0).val; omega
  | ⟨1, _⟩ => show 0 + 1 * (i 1).val = (i 1).val; omega

/-- Column `256 b + r` of `x`. -/
def xc (b : Fin 4) (r : Fin 256) : Fin 1024 := ⟨b.val * 256 + r.val, by omega⟩
/-- Column `1024 j + s` of `dy`. -/
def dc (j : Fin 4) (s : Fin 1024) : Fin 4096 := ⟨j.val * 1024 + s.val, by omega⟩

theorem xcol_apply (c : Dev nD) (b : Fin 4) (k : Fin 1024) (r : Fin 256) :
    xcol mI σ c b (ix2 k r) = xArr mI c (ix2 k (xc b r)) := by
  unfold xcol
  rw [xstg_eq]
  refine congrArg (xArr mI c) (funext fun a => Fin.ext ?_)
  match a with
  | ⟨0, _⟩ => show 0 + 1 * k.val = k.val; omega
  | ⟨1, _⟩ => show b.val * 256 + 1 * r.val = b.val * 256 + r.val; omega

theorem off1_eq (c : Dev nD) : k0_off1 c = ![0, (qn c).val * 1024] := by revert c; decide

theorem dquar_apply (c : Dev nD) (k s : Fin 1024) :
    dquar mI σ c (ix2 k s) = dyArr mI c (ix2 k (dc (qn c) s)) := by
  unfold dquar
  rw [pay1_eq, dstg_eq]
  refine congrArg (dyArr mI c) (funext fun a => Fin.ext ?_)
  have h := off1_eq c
  match a with
  | ⟨0, _⟩ =>
    show k0_off1 c 0 + 1 * k.val = k.val
    rw [h]; show 0 + 1 * k.val = k.val; omega
  | ⟨1, _⟩ =>
    show k0_off1 c 1 + 1 * s.val = (qn c).val * 1024 + s.val
    rw [h]; show (qn c).val * 1024 + 1 * s.val = (qn c).val * 1024 + s.val; omega

/-- An element of a partial product. -/
def pe (c : Dev nD) (b : Fin 4) (r : Fin 256) (s : Fin 1024) : EReal := pv mI σ c b (ix3 (0 : Fin 1) r s)

/-- It is the sum over the rows of the device's blocks. -/
theorem pe_eq (c : Dev nD) (b : Fin 4) (r : Fin 256) (s : Fin 1024) :
    pe mI σ c b r s = ∑ k : Fin 1024, xArr mI c (ix2 k (xc b r)) * dyArr mI c (ix2 k (dc (qn c) s)) := by
  unfold pe pv
  rw [pay2_apply]
  exact Finset.sum_congr rfl fun k _ => by rw [xcol_apply, dquar_apply]

/-! ## The lanes -/

/-- The running sum of a lane is a sum of partial products. -/
theorem svn_apply (A : Bool) (c : Dev nD) (b : Fin 4) (r : Fin 256) (s : Fin 1024) (n : ℕ) :
    svn mI σ A c b n (ix3 (0 : Fin 1) r s) = ∑ k ∈ Finset.range (n + 1), pe mI σ (dz c (lz A k)) b r s := by
  induction n with
  | zero =>
    rw [svn.eq_1, pay5_apply, Finset.sum_range_one]
    rfl
  | succ n ih =>
    rw [svn.eq_2, pay4_apply, ih, Finset.sum_range_succ _ (n + 1)]
    rfl

theorem svn_zp (c : Dev nD) (b : Fin 4) (n : ℕ) : svn mI σ true (zp c) b n = svn mI σ true c b n := svn_src mI σ true c b n
theorem svn_zn (c : Dev nD) (b : Fin 4) (n : ℕ) : svn mI σ false (zn c) b n = svn mI σ false c b n := svn_src mI σ false c b n

theorem zz_cases (c : Dev nD) :
    (zz c = 0 ∧ fst true c = true ∧ fst false c = false ∧ steps false (zn c) = 2)
    ∨ (zz c = 1 ∧ fst true c = false ∧ fst false c = false ∧ steps true (zp c) = 0 ∧ steps false (zn c) = 1)
    ∨ (zz c = 2 ∧ fst true c = false ∧ fst false c = false ∧ steps true (zp c) = 1 ∧ steps false (zn c) = 0)
    ∨ (zz c = 3 ∧ fst true c = false ∧ fst false c = true ∧ steps true (zp c) = 2) := by
  revert c; decide

/-- The accumulator ends as the sum of the partial products of the four devices of the line along `z`. -/
theorem acc2_apply (c : Dev nD) (r : Fin 256) (s : Fin 1024) :
    acc2 mI σ c (ix2 r s) = ∑ z : Fin 4, pe mI σ (dz c z.val) (zb c) r s := by
  have h0 : acc0 mI σ c (ix2 r s) = pe mI σ (dz c (zz c)) (zb c) r s := by
    unfold acc0; rw [pay20_apply, dz_self]; rfl
  rw [Fin.sum_univ_four]
  show _ = pe mI σ (dz c 0) (zb c) r s + pe mI σ (dz c 1) (zb c) r s + pe mI σ (dz c 2) (zb c) r s + pe mI σ (dz c 3) (zb c) r s
  rcases zz_cases c with ⟨hz, ht, hf, h1⟩ | ⟨hz, ht, hf, h2, h1⟩ | ⟨hz, ht, hf, h2, h1⟩ | ⟨hz, ht, hf, h2⟩ <;>
    rw [hz] at h0
  · unfold acc2 acc1 sv
    rw [if_neg (by rw [hf]; decide), if_pos ht, pay22_apply, h0, h1, svn_zn, svn_apply]
    simp only [Finset.sum_range_succ, Finset.sum_range_zero, zero_add, lz, Nat.reduceSub]
    ac_rfl
  · unfold acc2 acc1 sv
    rw [if_neg (by rw [hf]; decide), if_neg (by rw [ht]; decide), pay22_apply, pay21_apply, h0, h1, h2, svn_zn, svn_zp, svn_apply, svn_apply]
    simp only [Finset.sum_range_succ, Finset.sum_range_zero, zero_add, lz, Nat.reduceSub]
    ac_rfl
  · unfold acc2 acc1 sv
    rw [if_neg (by rw [hf]; decide), if_neg (by rw [ht]; decide), pay22_apply, pay21_apply, h0, h1, h2, svn_zn, svn_zp, svn_apply, svn_apply]
    simp only [Finset.sum_range_succ, Finset.sum_range_zero, zero_add, lz, Nat.reduceSub]
    ac_rfl
  · unfold acc2 acc1 sv
    rw [if_pos hf, if_neg (by rw [ht]; decide), pay21_apply, h0, h2, svn_zp, svn_apply]
    simp only [Finset.sum_range_succ, Finset.sum_range_zero, zero_add, lz, Nat.reduceSub]
    ac_rfl

/-! ## The result -/

theorem oq_eq (c : Dev nD) (j : Fin 4) : oq mI σ c j = acc2 mI σ (qdev c j) := by
  unfold oq
  split
  · next h => rw [h, qdev_self]
  · unfold gv; exact pay24_23 _

/-- The device of line `z` and quarter `j`. -/
def jz (j z : Fin 4) : Dev nD := ⟨j.val * 4 + z.val, by show _ < 16; omega⟩

theorem dz_qdev (c : Dev nD) (j z : Fin 4) : dz (qdev c j) z.val = jz j z := by revert c j z; decide
theorem zb_qdev (c : Dev nD) (j : Fin 4) : zb (qdev c j) = zb c := by revert c j; decide
theorem qn_jz (j z : Fin 4) : qn (jz j z) = j := by revert j z; decide
/-- The row and the column of an element of the result, and its column inside its quarter. -/
def oRow (i : S256x4096.Idx) : Fin 256 := i 0
def oCol (i : S256x4096.Idx) : Fin 4096 := i 1
def oIn (i : S256x4096.Idx) : Fin 1024 := qIdx i 1
theorem qIdx_eq (i : S256x4096.Idx) : qIdx i = ix2 (oRow i) (oIn i) := by
  refine funext fun a => ?_
  match a with
  | ⟨0, _⟩ => rfl
  | ⟨1, _⟩ => rfl
theorem dc_qOf (i : S256x4096.Idx) : dc (qOf i) (oIn i) = oCol i := by
  apply Fin.ext
  show (i 1).val / 1024 * 1024 + (i 1).val % 1024 = (i 1).val
  omega

/-- An element of a device's result: the sum, over the four devices of a line along `z` and the rows of their blocks,
    of `x` times `dy`. -/
theorem outAt_apply (c : Dev nD) (i : S256x4096.Idx) :
    outAt mI σ c i = ∑ z : Fin 4, ∑ k : Fin 1024,
      xArr mI (jz (qOf i) z) (ix2 k (xc (zb c) (oRow i))) * dyArr mI (jz (qOf i) z) (ix2 k (oCol i)) := by
  unfold outAt
  rw [oq_eq, qIdx_eq, acc2_apply, zb_qdev]
  refine Finset.sum_congr rfl fun z _ => ?_
  rw [pe_eq, dz_qdev, qn_jz, dc_qOf]

/-! ## The reference -/

/-- The reference's term: the transpose of `X` times `Y`, rounded to `bf16` and widened. -/
def refTerm (X : FVec Ideal Cert.ReferenceIdeal.S4096x1024 .bf16) (Y : FVec Ideal Cert.ReferenceIdeal.S4096x4096 .bf16) :
    FVec Ideal Cert.ReferenceIdeal.S1024x4096 .f32 :=
  extf .f32 (truncf .bf16 (Host.dotGeneral Cert.ReferenceIdeal.dot_S1024x4096_S4096x4096_S1024x4096_1_0_0_1_n_n none
    (transpose Cert.ReferenceIdeal.S1024x4096 [1, 0] X Cert.ReferenceIdeal.Gen.facts.toFacts₀.transposes_S4096x1024_S1024x4096_1_0) Y)
    Cert.ReferenceIdeal.Gen.facts.toFacts₀.bitsLt_bf16_f32) Cert.ReferenceIdeal.Gen.facts.toFacts₀.bitsLt_bf16_f32

theorem refTerm_apply (X : FVec Ideal Cert.ReferenceIdeal.S4096x1024 .bf16) (Y : FVec Ideal Cert.ReferenceIdeal.S4096x4096 .bf16) (p : Fin 1024) (q : Fin 4096) :
    refTerm X Y (ix2 p q) = ∑ k : Fin 4096, X (ix2 k p) * Y (ix2 k q) := by
  pointwise [refTerm]

/-- The block coordinates of a device along `z`. -/
abbrev zCut (c : Dev nD) := Layout.meshBlock [2, 2, 4] ![[2], []] c

theorem zCut_zero (c : Dev nD) : (zCut c 0).val = c.val % 4 := by revert c; decide
theorem zCut_one (c : Dev nD) : (zCut c 1).val = 0 := by revert c; decide
theorem jz_mod (j z : Fin 4) : (jz j z).val % 4 = z.val := by revert j z; decide

/-- Row `1024 z + k` of the whole arrays. -/
def zRow (z : Fin 4) (k : Fin 1024) : Fin 4096 := ⟨z.val * 1024 + k.val, by omega⟩

/-- Row `k` of block `z` is row `1024 z + k`: of an array of `n` columns cut in four along its rows. -/
theorem block_row {n : ℕ} (W : (⟨2, ![4096, n]⟩ : Shape).Idx → EReal)
    (h : Layout.TilesN ⟨2, ![1024, n]⟩ ⟨2, ![4096, n]⟩ fun b => Layout.cutSize [2, 2, 4] (![[2], []] b)) (j z : Fin 4) (k : Fin 1024) (q : Fin n) :
    Layout.blockN ⟨2, ![1024, n]⟩ ⟨2, ![4096, n]⟩ (zCut (jz j z)) W h (ix2 k q) = W (ix2 (zRow z k) q) := by
  refine congrArg W (funext fun a => Fin.ext ?_)
  have h0 := zCut_zero (jz j z)
  have h1 := zCut_one (jz j z)
  rw [jz_mod] at h0
  match a with
  | ⟨0, _⟩ =>
    show (zCut (jz j z) 0).val * 1024 + k.val = z.val * 1024 + k.val
    rw [h0]
  | ⟨1, _⟩ =>
    show (zCut (jz j z) 1).val * n + q.val = q.val
    rw [h1]; omega

/-- Where an element of a device's result lies in the whole result. -/
theorem block_out (W : (⟨2, ![1024, 4096]⟩ : Shape).Idx → EReal)
    (h : Layout.TilesN ⟨2, ![256, 4096]⟩ ⟨2, ![1024, 4096]⟩ fun b => Layout.cutSize [2, 2, 4] (![[2], []] b)) (c : Dev nD) (i : S256x4096.Idx) :
    Layout.blockN ⟨2, ![256, 4096]⟩ ⟨2, ![1024, 4096]⟩ (zCut c) W h i = W (ix2 (xc (zb c) (oRow i)) (oCol i)) := by
  refine congrArg W (funext fun a => Fin.ext ?_)
  have h0 := zCut_zero c
  have h1 := zCut_one c
  match a with
  | ⟨0, _⟩ =>
    show (zCut c 0).val * 256 + (i 0).val = c.val % 4 * 256 + (i 0).val
    rw [h0]
  | ⟨1, _⟩ =>
    show (zCut c 1).val * 4096 + (i 1).val = (i 1).val
    rw [h1]; omega

/-- If every device's blocks are those of `X` and `Y`, every device ends with its block of the reference's term. -/
theorem outAt_block (X : FVec Ideal Cert.ReferenceIdeal.S4096x1024 .bf16) (Y : FVec Ideal Cert.ReferenceIdeal.S4096x4096 .bf16)
    (hX : ∀ c : Dev nD, xArr mI c = Layout.blockN ⟨2, ![1024, 1024]⟩ ⟨2, ![4096, 1024]⟩ (zCut c) X)
    (hY : ∀ c : Dev nD, dyArr mI c = Layout.blockN ⟨2, ![1024, 4096]⟩ ⟨2, ![4096, 4096]⟩ (zCut c) Y) (c : Dev nD) :
    outAt mI σ c = Layout.blockN ⟨2, ![256, 4096]⟩ ⟨2, ![1024, 4096]⟩ (zCut c) (refTerm X Y) := by
  funext i
  rw [outAt_apply, block_out, refTerm_apply, Fin.sum_univ_tiles 4 1024 rfl]
  refine Finset.sum_congr rfl fun z _ => Finset.sum_congr rfl fun k _ => ?_
  rw [hX, hY]
  exact congrArg₂ (· * ·) (block_row X _ _ z k _) (block_row Y _ _ z k _)

end Cert.KernelIdealProof

end
-- ==== Proof.lean ====
/-
  The claims about the kernel, put together. `Cert.Claim` (Defs.lean) says five things.

  Three are frames: every weakly fair execution of the kernel at bit patterns, of the kernel in exact arithmetic and of
  the reference in exact arithmetic ends, with the arguments unchanged and every semaphore at zero. The kernel's two come
  from the run of its launch (Proof/Kernel/Launch.lean and Proof/KernelIdeal/Launch.lean, one text at the two readings of
  the floats); the reference's is a line of host operations.

  The fourth says that the exact reading is of the same program. The fifth is the value: started on blocks of two whole
  arrays, every device ends with its block of what the reference computes of the whole arrays
  (Proof/KernelIdeal/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The kernel at bit patterns ends with its arguments unchanged and its semaphores at zero. -/
theorem frame_kernel : Cert.quiescent_Kernel := fun m ρ _ =>
  (θ_run Cert.Kernel.defs _ _).mono (fun _ h => ⟨fun c => (h.1 c).2, h.2⟩) (Cert.KernelProof.run_arrays (F := Bits) m ρ)

/-- The kernel in exact arithmetic does too. -/
theorem frame_kernelIdeal : Cert.quiescent_KernelIdeal := fun m ρ _ =>
  (θ_run Cert.KernelIdeal.defs _ _).mono (fun _ h => ⟨fun c => (h.1 c).2, h.2⟩) (Cert.KernelIdealProof.run_arrays (F := Ideal) m ρ)

/-- The reference, which has no semaphore, keeps its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The exact reading is of the kernel's own text. -/
theorem preserves : Cert.preserves_Kernel_KernelIdeal := trivial

/-- Every device of the kernel ends with its block of the reference's result. -/
theorem algebraic : Cert.algebraic_KernelIdeal_ReferenceIdeal := fun m g m' g' _ hag =>
  ⟨_, (θ_run Cert.KernelIdeal.defs _ _).mono
      (fun _ h c => ⟨(h.1 c).1.trans (Cert.KernelIdealProof.outAt_block m g _ _ (fun d => (hag d).1) (fun d => (hag d).2) c), (h.1 c).2⟩)
      (Cert.KernelIdealProof.run_arrays (F := Ideal) m g),
    (θ_run Cert.ReferenceIdeal.defs _ _).mono (fun _ h => h 0) (Cert.ReferenceIdeal.Value.run (F := Ideal) m' g')⟩

/-- All the claims. -/
theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
